-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x5000x85 : Shape := ⟨3, ![4, 5000, 85]⟩
abbrev S_ : Shape := ⟨0, ![]⟩
abbrev S4x5120x85 : Shape := ⟨3, ![4, 5120, 85]⟩
abbrev S4x85x5120 : Shape := ⟨3, ![4, 85, 5120]⟩
abbrev S4x85x40x128 : Shape := ⟨4, ![4, 85, 40, 128]⟩
abbrev S4x300x6 : Shape := ⟨3, ![4, 300, 6]⟩
abbrev S4x40x128 : Shape := ⟨3, ![4, 40, 128]⟩
abbrev S40x128 : Shape := ⟨2, ![40, 128]⟩
abbrev S4x1x40x128 : Shape := ⟨4, ![4, 1, 40, 128]⟩
abbrev S1x40x128 : Shape := ⟨3, ![1, 40, 128]⟩
abbrev S1 : Shape := ⟨1, ![1]⟩
abbrev S1x1x1 : Shape := ⟨3, ![1, 1, 1]⟩
abbrev S1x1 : Shape := ⟨2, ![1, 1]⟩
abbrev S1x6 : Shape := ⟨2, ![1, 6]⟩
abbrev S1x1x6 : Shape := ⟨3, ![1, 1, 6]⟩

abbrev nBuf : Space → Nat
  | .hbm => 7
  | .vmem => 14
  | .smem => 0
  | _ => 0

abbrev bufTy : (tb : Table) → Fin (tcTables nBuf tb) → BufTy
  | .hbm, ⟨0, _⟩ => ⟨S4x5000x85, .f32⟩
  | .hbm, ⟨1, _⟩ => ⟨S_, .i32⟩
  | .hbm, ⟨2, _⟩ => ⟨S_, .f32⟩
  | .hbm, ⟨3, _⟩ => ⟨S4x5120x85, .f32⟩
  | .hbm, ⟨4, _⟩ => ⟨S4x85x5120, .f32⟩
  | .hbm, ⟨5, _⟩ => ⟨S4x85x40x128, .f32⟩
  | .hbm, ⟨6, _⟩ => ⟨S4x300x6, .f32⟩
  | .local _ .vmem, ⟨0, _⟩ => ⟨S4x85x40x128, .f32⟩
  | .local _ .vmem, ⟨1, _⟩ => ⟨S4x300x6, .f32⟩
  | .local _ .vmem, ⟨2, _⟩ => ⟨S4x40x128, .f32⟩
  | .local _ .vmem, ⟨3, _⟩ => ⟨S4x40x128, .f32⟩
  | .local _ .vmem, ⟨4, _⟩ => ⟨S4x40x128, .f32⟩
  | .local _ .vmem, ⟨5, _⟩ => ⟨S4x40x128, .f32⟩
  | .local _ .vmem, ⟨6, _⟩ => ⟨S4x40x128, .f32⟩
  | .local _ .vmem, ⟨7, _⟩ => ⟨S4x40x128, .f32⟩
  | .local _ .vmem, ⟨8, _⟩ => ⟨S4x40x128, .f32⟩
  | .local _ .vmem, ⟨9, _⟩ => ⟨S4x40x128, .f32⟩
  | .local _ .vmem, ⟨10, _⟩ => ⟨S4x40x128, .f32⟩
  | .local _ .vmem, ⟨11, _⟩ => ⟨S4x40x128, .f32⟩
  | .local _ .vmem, ⟨12, _⟩ => ⟨S4x40x128, .f32⟩
  | .local _ .vmem, ⟨13, _⟩ => ⟨S40x128, .i32⟩
  | _, _ => ⟨S4x5000x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (arg14 : BitVec 32) : Fin 3 → Nat :=
  let c0_646 : Index := 0#32
  let v1175 : Index := Scalar.indexCast arg14
  let c0_647 : Index := 0#32
  ![0, v1175.toNat, 0]
def k0_cond1 (arg14 : BitVec 32) (v580 : BitVec 1) : BitVec 1 :=
  let c300_i32 : BitVec 32 := 300#32
  let v579 : BitVec 1 := Scalar.cmpi .slt arg14 c300_i32
  let v581 : BitVec 1 := Scalar.andi v579 v580
  let v720 : BitVec 32 := Scalar.extui v581
  let c0_i32_397 : BitVec 32 := 0#32
  let v721 : BitVec 1 := Scalar.cmpi .ne v720 c0_i32_397
  v721

def k0_chk1 (arg14 : BitVec 32) (v580 : BitVec 1) : Prop :=
  (∀ (k0_h1 : k0_cond1 arg14 v580 = 1#1), ∀ a, (k0_off1 arg14) a + S1x1x6.size a ≤ S4x300x6.size a)
theorem k0_off1_inb : ∀ (arg14 : BitVec 32) (v580 : BitVec 1) (k0_hw1 : k0_chk1 arg14 v580), ∀ (k0_h1 : k0_cond1 arg14 v580 = 1#1), ∀ a, (k0_off1 arg14) a + S1x1x6.size a ≤ S4x300x6.size a := fun arg14 v580 k0_hw1 k0_h1 => k0_hw1 k0_h1

def k0_off2 (arg15 : BitVec 32) : Fin 3 → Nat :=
  let c1_646 : Index := 1#32
  let v1175 : Index := Scalar.indexCast arg15
  let c0_647 : Index := 0#32
  ![1, v1175.toNat, 0]
def k0_cond2 (arg15 : BitVec 32) (v729 : BitVec 1) : BitVec 1 :=
  let c300_i32_400 : BitVec 32 := 300#32
  let v728 : BitVec 1 := Scalar.cmpi .slt arg15 c300_i32_400
  let v730 : BitVec 1 := Scalar.andi v728 v729
  let v869 : BitVec 32 := Scalar.extui v730
  let c0_i32_479 : BitVec 32 := 0#32
  let v870 : BitVec 1 := Scalar.cmpi .ne v869 c0_i32_479
  v870

def k0_chk2 (arg15 : BitVec 32) (v729 : BitVec 1) : Prop :=
  (∀ (k0_h2 : k0_cond2 arg15 v729 = 1#1), ∀ a, (k0_off2 arg15) a + S1x1x6.size a ≤ S4x300x6.size a)
theorem k0_off2_inb : ∀ (arg15 : BitVec 32) (v729 : BitVec 1) (k0_hw2 : k0_chk2 arg15 v729), ∀ (k0_h2 : k0_cond2 arg15 v729 = 1#1), ∀ a, (k0_off2 arg15) a + S1x1x6.size a ≤ S4x300x6.size a := fun arg15 v729 k0_hw2 k0_h2 => k0_hw2 k0_h2

def k0_off3 (arg16 : BitVec 32) : Fin 3 → Nat :=
  let c2_646 : Index := 2#32
  let v1175 : Index := Scalar.indexCast arg16
  let c0_647 : Index := 0#32
  ![2, v1175.toNat, 0]
def k0_cond3 (arg16 : BitVec 32) (v878 : BitVec 1) : BitVec 1 :=
  let c300_i32_482 : BitVec 32 := 300#32
  let v877 : BitVec 1 := Scalar.cmpi .slt arg16 c300_i32_482
  let v879 : BitVec 1 := Scalar.andi v877 v878
  let v1018 : BitVec 32 := Scalar.extui v879
  let c0_i32_561 : BitVec 32 := 0#32
  let v1019 : BitVec 1 := Scalar.cmpi .ne v1018 c0_i32_561
  v1019

def k0_chk3 (arg16 : BitVec 32) (v878 : BitVec 1) : Prop :=
  (∀ (k0_h3 : k0_cond3 arg16 v878 = 1#1), ∀ a, (k0_off3 arg16) a + S1x1x6.size a ≤ S4x300x6.size a)
theorem k0_off3_inb : ∀ (arg16 : BitVec 32) (v878 : BitVec 1) (k0_hw3 : k0_chk3 arg16 v878), ∀ (k0_h3 : k0_cond3 arg16 v878 = 1#1), ∀ a, (k0_off3 arg16) a + S1x1x6.size a ≤ S4x300x6.size a := fun arg16 v878 k0_hw3 k0_h3 => k0_hw3 k0_h3

def k0_off4 (arg17 : BitVec 32) : Fin 3 → Nat :=
  let c3_646 : Index := 3#32
  let v1175 : Index := Scalar.indexCast arg17
  let c0_647 : Index := 0#32
  ![3, v1175.toNat, 0]
def k0_cond4 (arg17 : BitVec 32) (v1027 : BitVec 1) : BitVec 1 :=
  let c300_i32_564 : BitVec 32 := 300#32
  let v1026 : BitVec 1 := Scalar.cmpi .slt arg17 c300_i32_564
  let v1028 : BitVec 1 := Scalar.andi v1026 v1027
  let v1167 : BitVec 32 := Scalar.extui v1028
  let c0_i32_643 : BitVec 32 := 0#32
  let v1168 : BitVec 1 := Scalar.cmpi .ne v1167 c0_i32_643
  v1168

def k0_chk4 (arg17 : BitVec 32) (v1027 : BitVec 1) : Prop :=
  (∀ (k0_h4 : k0_cond4 arg17 v1027 = 1#1), ∀ a, (k0_off4 arg17) a + S1x1x6.size a ≤ S4x300x6.size a)
theorem k0_off4_inb : ∀ (arg17 : BitVec 32) (v1027 : BitVec 1) (k0_hw4 : k0_chk4 arg17 v1027), ∀ (k0_h4 : k0_cond4 arg17 v1027 = 1#1), ∀ a, (k0_off4 arg17) a + S1x1x6.size a ≤ S4x300x6.size a := fun arg17 v1027 k0_hw4 k0_h4 => k0_hw4 k0_h4

abbrev stage0_0 : Fin 1 → Memref sig .tc .vmem S4x85x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x300x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x5000x85 : Shape := ⟨3, ![4, 5000, 85]⟩
abbrev S4x5000x1 : Shape := ⟨3, ![4, 5000, 1]⟩
abbrev S4x5000 : Shape := ⟨2, ![4, 5000]⟩
abbrev S_ : Shape := ⟨0, ![]⟩
abbrev S4x5000x4 : Shape := ⟨3, ![4, 5000, 4]⟩
abbrev S4x5000x80 : Shape := ⟨3, ![4, 5000, 80]⟩
abbrev S5000 : Shape := ⟨1, ![5000]⟩
abbrev S4x5000x2 : Shape := ⟨3, ![4, 5000, 2]⟩
abbrev S4x5000x1x2 : Shape := ⟨4, ![4, 5000, 1, 2]⟩
abbrev S4x1x5000x2 : Shape := ⟨4, ![4, 1, 5000, 2]⟩
abbrev S4x5000x5000x2 : Shape := ⟨4, ![4, 5000, 5000, 2]⟩
abbrev S4x5000x5000x1 : Shape := ⟨4, ![4, 5000, 5000, 1]⟩
abbrev S4x5000x5000 : Shape := ⟨3, ![4, 5000, 5000]⟩
abbrev S4x1x5000 : Shape := ⟨3, ![4, 1, 5000]⟩
abbrev S1x5000 : Shape := ⟨2, ![1, 5000]⟩
abbrev S4x1 : Shape := ⟨2, ![4, 1]⟩
abbrev S4 : Shape := ⟨1, ![4]⟩
abbrev S4x300 : Shape := ⟨2, ![4, 300]⟩
abbrev S4x300x1 : Shape := ⟨3, ![4, 300, 1]⟩
abbrev S4x300x4 : Shape := ⟨3, ![4, 300, 4]⟩
abbrev S4x300x6 : Shape := ⟨3, ![4, 300, 6]⟩

abbrev nBuf : Space → Nat
  | .hbm => 254
  | .vmem => 0
  | .smem => 0
  | _ => 0

abbrev hbmTy0_0 (i : Nat) : BufTy := match i % 128 with
  | 0 => ⟨S4x5000x85, .f32⟩
  | 1 => ⟨S4x5000x1, .f32⟩
  | 2 => ⟨S4x5000, .f32⟩
  | 3 => ⟨S_, .f32⟩
  | 4 => ⟨S4x5000, .f32⟩
  | 5 => ⟨S4x5000, .i1⟩
  | 6 => ⟨S4x5000x4, .f32⟩
  | 7 => ⟨S4x5000x1, .f32⟩
  | 8 => ⟨S4x5000, .f32⟩
  | 9 => ⟨S4x5000x1, .f32⟩
  | 10 => ⟨S4x5000, .f32⟩
  | 11 => ⟨S4x5000x1, .f32⟩
  | 12 => ⟨S4x5000, .f32⟩
  | 13 => ⟨S4x5000x1, .f32⟩
  | 14 => ⟨S4x5000, .f32⟩
  | 15 => ⟨S_, .f32⟩
  | 16 => ⟨S4x5000, .f32⟩
  | 17 => ⟨S4x5000, .f32⟩
  | 18 => ⟨S4x5000, .f32⟩
  | 19 => ⟨S_, .f32⟩
  | 20 => ⟨S4x5000, .f32⟩
  | 21 => ⟨S4x5000, .f32⟩
  | 22 => ⟨S4x5000, .f32⟩
  | 23 => ⟨S_, .f32⟩
  | 24 => ⟨S4x5000, .f32⟩
  | 25 => ⟨S4x5000, .f32⟩
  | 26 => ⟨S4x5000, .f32⟩
  | 27 => ⟨S_, .f32⟩
  | 28 => ⟨S4x5000, .f32⟩
  | 29 => ⟨S4x5000, .f32⟩
  | 30 => ⟨S4x5000, .f32⟩
  | 31 => ⟨S4x5000x1, .f32⟩
  | 32 => ⟨S4x5000x1, .f32⟩
  | 33 => ⟨S4x5000x1, .f32⟩
  | 34 => ⟨S4x5000x1, .f32⟩
  | 35 => ⟨S4x5000x4, .f32⟩
  | 36 => ⟨S4x5000x80, .f32⟩
  | 37 => ⟨S_, .f32⟩
  | 38 => ⟨S4x5000, .f32⟩
  | 39 => ⟨S4x5000x80, .i32⟩
  | 40 => ⟨S_, .f32⟩
  | 41 => ⟨S_, .i32⟩
  | 42 => ⟨S4x5000, .f32⟩
  | 43 => ⟨S4x5000, .i32⟩
  | 44 => ⟨S4x5000, .f32⟩
  | 45 => ⟨S4x5000, .f32⟩
  | 46 => ⟨S_, .f32⟩
  | 47 => ⟨S_, .f32⟩
  | 48 => ⟨S5000, .f32⟩
  | 49 => ⟨S4x5000, .f32⟩
  | 50 => ⟨S4x5000, .f32⟩
  | 51 => ⟨S4x5000, .f32⟩
  | 52 => ⟨S5000, .i32⟩
  | 53 => ⟨S4x5000, .i32⟩
  | 54 => ⟨S4x5000, .f32⟩
  | 55 => ⟨S4x5000, .i32⟩
  | 56 => ⟨S_, .i32⟩
  | 57 => ⟨S4x5000, .i32⟩
  | 58 => ⟨S4x5000, .i1⟩
  | 59 => ⟨S_, .i32⟩
  | 60 => ⟨S4x5000, .i32⟩
  | 61 => ⟨S4x5000, .i32⟩
  | 62 => ⟨S4x5000, .i32⟩
  | 63 => ⟨S4x5000x1, .i32⟩
  | 64 => ⟨S4x5000x4, .f32⟩
  | 65 => ⟨S_, .i32⟩
  | 66 => ⟨S4x5000, .i32⟩
  | 67 => ⟨S4x5000, .i1⟩
  | 68 => ⟨S_, .i32⟩
  | 69 => ⟨S4x5000, .i32⟩
  | 70 => ⟨S4x5000, .i32⟩
  | 71 => ⟨S4x5000, .i32⟩
  | 72 => ⟨S4x5000x1, .i32⟩
  | 73 => ⟨S4x5000, .f32⟩
  | 74 => ⟨S_, .i32⟩
  | 75 => ⟨S4x5000, .i32⟩
  | 76 => ⟨S4x5000, .i1⟩
  | 77 => ⟨S_, .i32⟩
  | 78 => ⟨S4x5000, .i32⟩
  | 79 => ⟨S4x5000, .i32⟩
  | 80 => ⟨S4x5000, .i32⟩
  | 81 => ⟨S4x5000x1, .i32⟩
  | 82 => ⟨S4x5000, .f32⟩
  | 83 => ⟨S_, .i32⟩
  | 84 => ⟨S4x5000, .i32⟩
  | 85 => ⟨S4x5000, .i1⟩
  | 86 => ⟨S_, .i32⟩
  | 87 => ⟨S4x5000, .i32⟩
  | 88 => ⟨S4x5000, .i32⟩
  | 89 => ⟨S4x5000, .i32⟩
  | 90 => ⟨S4x5000x1, .i32⟩
  | 91 => ⟨S4x5000, .i1⟩
  | 92 => ⟨S4x5000x1, .f32⟩
  | 93 => ⟨S_, .f32⟩
  | 94 => ⟨S4x5000x1, .f32⟩
  | 95 => ⟨S4x5000x1, .f32⟩
  | 96 => ⟨S4x5000x4, .f32⟩
  | 97 => ⟨S4x5000x4, .f32⟩
  | 98 => ⟨S4x5000x1, .f32⟩
  | 99 => ⟨S4x5000, .f32⟩
  | 100 => ⟨S4x5000x1, .f32⟩
  | 101 => ⟨S4x5000, .f32⟩
  | 102 => ⟨S4x5000, .f32⟩
  | 103 => ⟨S4x5000x1, .f32⟩
  | 104 => ⟨S4x5000, .f32⟩
  | 105 => ⟨S4x5000x1, .f32⟩
  | 106 => ⟨S4x5000, .f32⟩
  | 107 => ⟨S4x5000, .f32⟩
  | 108 => ⟨S4x5000, .f32⟩
  | 109 => ⟨S4x5000x2, .f32⟩
  | 110 => ⟨S4x5000x1x2, .f32⟩
  | 111 => ⟨S4x5000x2, .f32⟩
  | 112 => ⟨S4x1x5000x2, .f32⟩
  | 113 => ⟨S4x5000x5000x2, .f32⟩
  | 114 => ⟨S4x5000x5000x2, .f32⟩
  | 115 => ⟨S4x5000x5000x2, .f32⟩
  | 116 => ⟨S4x5000x2, .f32⟩
  | 117 => ⟨S4x5000x1x2, .f32⟩
  | 118 => ⟨S4x5000x2, .f32⟩
  | 119 => ⟨S4x1x5000x2, .f32⟩
  | 120 => ⟨S4x5000x5000x2, .f32⟩
  | 121 => ⟨S4x5000x5000x2, .f32⟩
  | 122 => ⟨S4x5000x5000x2, .f32⟩
  | 123 => ⟨S4x5000x5000x2, .f32⟩
  | 124 => ⟨S_, .f32⟩
  | 125 => ⟨S_, .f32⟩
  | 126 => ⟨S4x5000x5000x2, .f32⟩
  | 127 => ⟨S4x5000x5000x2, .f32⟩
  | _ => ⟨S4x5000x85, .f32⟩

abbrev hbmTy0_1 (i : Nat) : BufTy := match i % 128 with
  | 0 => ⟨S4x5000x5000x1, .f32⟩
  | 1 => ⟨S4x5000x5000, .f32⟩
  | 2 => ⟨S4x5000x5000x1, .f32⟩
  | 3 => ⟨S4x5000x5000, .f32⟩
  | 4 => ⟨S4x5000x5000, .f32⟩
  | 5 => ⟨S4x5000x1, .f32⟩
  | 6 => ⟨S4x1x5000, .f32⟩
  | 7 => ⟨S4x5000x5000, .f32⟩
  | 8 => ⟨S4x5000x5000, .f32⟩
  | 9 => ⟨S4x5000x5000, .f32⟩
  | 10 => ⟨S4x5000x5000, .f32⟩
  | 11 => ⟨S4x5000x5000, .f32⟩
  | 12 => ⟨S5000, .i32⟩
  | 13 => ⟨S4x5000, .i1⟩
  | 14 => ⟨S_, .i32⟩
  | 15 => ⟨S_, .i32⟩
  | 16 => ⟨S4x5000x5000, .f32⟩
  | 17 => ⟨S5000, .i32⟩
  | 18 => ⟨S_, .i32⟩
  | 19 => ⟨S_, .i32⟩
  | 20 => ⟨S4x5000, .i1⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S4x1x5000, .f32⟩
  | 48 => ⟨S4x5000, .f32⟩
  | 49 => ⟨S_, .f32⟩
  | 50 => ⟨S4x5000, .f32⟩
  | 51 => ⟨S4x5000, .i1⟩
  | 52 => ⟨S_, .i32⟩
  | 53 => ⟨S5000, .i32⟩
  | 54 => ⟨S5000, .i1⟩
  | 55 => ⟨S1x5000, .i1⟩
  | 56 => ⟨S4x5000, .i1⟩
  | 57 => ⟨S4x5000, .i1⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S4x1, .i1⟩
  | 73 => ⟨S4, .i1⟩
  | 74 => ⟨S4x1, .i1⟩
  | 75 => ⟨S4x5000, .i1⟩
  | 76 => ⟨S4x5000, .i1⟩
  | 77 => ⟨S4x5000, .i1⟩
  | 78 => ⟨S_, .i32⟩
  | 79 => ⟨S_, .i32⟩
  | 80 => ⟨S4x5000, .i1⟩
  | 81 => ⟨S4x5000, .i1⟩
  | 82 => ⟨S_, .f32⟩
  | 83 => ⟨S_, .f32⟩
  | 84 => ⟨S5000, .f32⟩
  | 85 => ⟨S4x5000, .f32⟩
  | 86 => ⟨S4x5000, .f32⟩
  | 87 => ⟨S4x300, .f32⟩
  | 88 => ⟨S4x300, .i32⟩
  | 89 => ⟨S_, .f32⟩
  | 90 => ⟨S4x300, .f32⟩
  | 91 => ⟨S4x300, .i1⟩
  | 92 => ⟨S4x300, .f32⟩
  | 93 => ⟨S4x300x1, .f32⟩
  | 94 => ⟨S_, .i32⟩
  | 95 => ⟨S4x300, .i32⟩
  | 96 => ⟨S4x300, .i1⟩
  | 97 => ⟨S_, .i32⟩
  | 98 => ⟨S4x300, .i32⟩
  | 99 => ⟨S4x300, .i32⟩
  | 100 => ⟨S4x300, .i32⟩
  | 101 => ⟨S4x300x1, .i32⟩
  | 102 => ⟨S4x300x4, .f32⟩
  | 103 => ⟨S_, .i32⟩
  | 104 => ⟨S4x300, .i32⟩
  | 105 => ⟨S4x300, .i1⟩
  | 106 => ⟨S_, .i32⟩
  | 107 => ⟨S4x300, .i32⟩
  | 108 => ⟨S4x300, .i32⟩
  | 109 => ⟨S4x300, .i32⟩
  | 110 => ⟨S4x300x1, .i32⟩
  | 111 => ⟨S4x300, .f32⟩
  | 112 => ⟨S4x300x1, .f32⟩
  | 113 => ⟨S_, .i32⟩
  | 114 => ⟨S4x300, .i32⟩
  | 115 => ⟨S4x300, .i1⟩
  | 116 => ⟨S_, .i32⟩
  | 117 => ⟨S4x300, .i32⟩
  | 118 => ⟨S4x300, .i32⟩
  | 119 => ⟨S4x300, .i32⟩
  | 120 => ⟨S4x300x1, .i32⟩
  | 121 => ⟨S4x300, .f32⟩
  | 122 => ⟨S4x300x1, .f32⟩
  | 123 => ⟨S4x300x6, .f32⟩
  | 124 => ⟨S4x300x6, .f32⟩
  | 125 => ⟨S4x300x6, .f32⟩
  | _ => ⟨S4x5000x85, .f32⟩

abbrev hbmTy (i : Nat) : BufTy := match i / 128 with
  | 0 => hbmTy0_0 i
  | 1 => hbmTy0_1 i
  | _ => ⟨S4x5000x85, .f32⟩

abbrev bufTy : (tb : Table) → Fin (tcTables nBuf tb) → BufTy
  | .hbm, ⟨i, _⟩ => hbmTy i
  | _, _ => ⟨S4x5000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_4 : Ref sig .tc := ⟨.hbm, 37, rfl⟩
abbrev main_v31 : Ref sig .tc := ⟨.hbm, 38, rfl⟩
abbrev main_call0_v0 : Ref sig .tc := ⟨.hbm, 39, rfl⟩
abbrev main_call0_cst : Ref sig .tc := ⟨.hbm, 40, rfl⟩
abbrev main_call0_c : Ref sig .tc := ⟨.hbm, 41, rfl⟩
abbrev main_call0_v1_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v35 : Ref sig .tc := ⟨.hbm, 50, rfl⟩
abbrev main_v36 : Ref sig .tc := ⟨.hbm, 51, rfl⟩
abbrev main_call2_v0 : Ref sig .tc := ⟨.hbm, 52, rfl⟩
abbrev main_call2_v1 : Ref sig .tc := ⟨.hbm, 53, rfl⟩
abbrev main_call2_v2_0 : Ref sig .tc := ⟨.hbm, 54, rfl⟩
abbrev main_v37 : Ref sig .tc := ⟨.hbm, 55, rfl⟩
abbrev main_c : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_14 : Ref sig .tc := ⟨.hbm, 124, rfl⟩
abbrev main_call3_v0 : Ref sig .tc := ⟨.hbm, 125, rfl⟩
abbrev main_call3_v1 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_c_15 : Ref sig .tc := ⟨.hbm, 142, rfl⟩
abbrev main_c_16 : Ref sig .tc := ⟨.hbm, 143, rfl⟩
abbrev main_v112_0 : Ref sig .tc := ⟨.hbm, 144, rfl⟩
abbrev main_v112_1 : Ref sig .tc := ⟨.hbm, 145, rfl⟩
abbrev main_v112_2 : Ref sig .tc := ⟨.hbm, 146, rfl⟩
abbrev main_v112_3 : Ref sig .tc := ⟨.hbm, 147, rfl⟩
abbrev main_v112_4 : Ref sig .tc := ⟨.hbm, 148, rfl⟩
abbrev main_while0c_c_29 : Ref sig .tc := ⟨.hbm, 149, rfl⟩
abbrev main_while0c_v146 : Ref sig .tc := ⟨.hbm, 150, rfl⟩
abbrev main_while0b_c_29 : Ref sig .tc := ⟨.hbm, 151, rfl⟩
abbrev main_while0b_v146 : Ref sig .tc := ⟨.hbm, 152, rfl⟩
abbrev main_while0b_v147 : Ref sig .tc := ⟨.hbm, 153, rfl⟩
abbrev main_while0b_c_30 : Ref sig .tc := ⟨.hbm, 154, rfl⟩
abbrev main_while0b_c_31 : Ref sig .tc := ⟨.hbm, 155, rfl⟩
abbrev main_while0b_v148 : Ref sig .tc := ⟨.hbm, 156, rfl⟩
abbrev main_while0b_c_32 : Ref sig .tc := ⟨.hbm, 157, rfl⟩
abbrev main_while0b_c_33 : Ref sig .tc := ⟨.hbm, 158, rfl⟩
abbrev main_while0b_v149 : Ref sig .tc := ⟨.hbm, 159, rfl⟩
abbrev main_while0b_c_34 : Ref sig .tc := ⟨.hbm, 160, rfl⟩
abbrev main_while0b_v150 : Ref sig .tc := ⟨.hbm, 161, rfl⟩
abbrev main_while0b_c_35 : Ref sig .tc := ⟨.hbm, 162, rfl⟩
abbrev main_while0b_v151 : Ref sig .tc := ⟨.hbm, 163, rfl⟩
abbrev main_while0b_c_36 : Ref sig .tc := ⟨.hbm, 164, rfl⟩
abbrev main_while0b_v152 : Ref sig .tc := ⟨.hbm, 165, rfl⟩
abbrev main_while0b_v153 : Ref sig .tc := ⟨.hbm, 166, rfl⟩
abbrev main_while0b_c_37 : Ref sig .tc := ⟨.hbm, 167, rfl⟩
abbrev main_while0b_c_38 : Ref sig .tc := ⟨.hbm, 168, rfl⟩
abbrev main_while0b_v154 : Ref sig .tc := ⟨.hbm, 169, rfl⟩
abbrev main_while0b_c_39 : Ref sig .tc := ⟨.hbm, 170, rfl⟩
abbrev main_while0b_c_40 : Ref sig .tc := ⟨.hbm, 171, rfl⟩
abbrev main_while0b_v155 : Ref sig .tc := ⟨.hbm, 172, rfl⟩
abbrev main_while0b_c_41 : Ref sig .tc := ⟨.hbm, 173, rfl⟩
abbrev main_while0b_v156 : Ref sig .tc := ⟨.hbm, 174, rfl⟩
abbrev main_while0b_v157 : Ref sig .tc := ⟨.hbm, 175, rfl⟩
abbrev main_while0b_v158 : Ref sig .tc := ⟨.hbm, 176, rfl⟩
abbrev main_while0b_cst_42 : Ref sig .tc := ⟨.hbm, 177, rfl⟩
abbrev main_while0b_v159 : Ref sig .tc := ⟨.hbm, 178, rfl⟩
abbrev main_while0b_v160 : Ref sig .tc := ⟨.hbm, 179, rfl⟩
abbrev main_while0b_v161 : Ref sig .tc := ⟨.hbm, 180, rfl⟩
abbrev main_while0b_v162 : Ref sig .tc := ⟨.hbm, 181, rfl⟩
abbrev main_while0b_v163 : Ref sig .tc := ⟨.hbm, 182, rfl⟩
abbrev main_while0b_v164 : Ref sig .tc := ⟨.hbm, 183, rfl⟩
abbrev main_while0b_v165 : Ref sig .tc := ⟨.hbm, 184, rfl⟩
abbrev main_while0b_v166 : Ref sig .tc := ⟨.hbm, 185, rfl⟩
abbrev main_while0b_v167 : Ref sig .tc := ⟨.hbm, 186, rfl⟩
abbrev main_while0b_c_43 : Ref sig .tc := ⟨.hbm, 187, rfl⟩
abbrev main_while0b_c_44 : Ref sig .tc := ⟨.hbm, 188, rfl⟩
abbrev main_while0b_v168 : Ref sig .tc := ⟨.hbm, 189, rfl⟩
abbrev main_while0b_c_45 : Ref sig .tc := ⟨.hbm, 190, rfl⟩
abbrev main_while0b_c_46 : Ref sig .tc := ⟨.hbm, 191, rfl⟩
abbrev main_while0b_v169 : Ref sig .tc := ⟨.hbm, 192, rfl⟩
abbrev main_while0b_c_47 : Ref sig .tc := ⟨.hbm, 193, rfl⟩
abbrev main_while0b_v170 : Ref sig .tc := ⟨.hbm, 194, rfl⟩
abbrev main_while0b_c_48 : Ref sig .tc := ⟨.hbm, 195, rfl⟩
abbrev main_while0b_v171 : Ref sig .tc := ⟨.hbm, 196, rfl⟩
abbrev main_while0b_c_49 : Ref sig .tc := ⟨.hbm, 197, rfl⟩
abbrev main_while0b_v172 : Ref sig .tc := ⟨.hbm, 198, rfl⟩
abbrev main_while0b_v173 : Ref sig .tc := ⟨.hbm, 199, rfl⟩
abbrev main_while0b_v174 : Ref sig .tc := ⟨.hbm, 200, rfl⟩
abbrev main_while0b_v175 : Ref sig .tc := ⟨.hbm, 201, rfl⟩
abbrev main_while0b_v176 : Ref sig .tc := ⟨.hbm, 202, rfl⟩
abbrev main_while0b_v177 : Ref sig .tc := ⟨.hbm, 203, rfl⟩
abbrev main_while0b_call4_v0 : Ref sig .tc := ⟨.hbm, 204, rfl⟩
abbrev main_while0b_v178 : Ref sig .tc := ⟨.hbm, 205, rfl⟩
abbrev main_while0b_c_50 : Ref sig .tc := ⟨.hbm, 206, rfl⟩
abbrev main_while0b_v179 : Ref sig .tc := ⟨.hbm, 207, rfl⟩
abbrev main_v113 : Ref sig .tc := ⟨.hbm, 208, rfl⟩
abbrev main_v114 : Ref sig .tc := ⟨.hbm, 209, rfl⟩
abbrev main_cst_17 : Ref sig .tc := ⟨.hbm, 210, rfl⟩
abbrev main_call5_v0 : Ref sig .tc := ⟨.hbm, 211, rfl⟩
abbrev main_call5_v1 : Ref sig .tc := ⟨.hbm, 212, rfl⟩
abbrev main_call5_v2 : Ref sig .tc := ⟨.hbm, 213, rfl⟩
abbrev main_v115 : Ref sig .tc := ⟨.hbm, 214, rfl⟩
abbrev main_values : Ref sig .tc := ⟨.hbm, 215, rfl⟩
abbrev main_indices : Ref sig .tc := ⟨.hbm, 216, rfl⟩
abbrev main_cst_18 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_c_19 : Ref sig .tc := ⟨.hbm, 222, rfl⟩
abbrev main_v120 : Ref sig .tc := ⟨.hbm, 223, rfl⟩
abbrev main_v121 : Ref sig .tc := ⟨.hbm, 224, rfl⟩
abbrev main_c_20 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_c_21 : Ref sig .tc := ⟨.hbm, 231, rfl⟩
abbrev main_v127 : Ref sig .tc := ⟨.hbm, 232, rfl⟩
abbrev main_v128 : Ref sig .tc := ⟨.hbm, 233, rfl⟩
abbrev main_c_22 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_c_23 : Ref sig .tc := ⟨.hbm, 241, rfl⟩
abbrev main_v135 : Ref sig .tc := ⟨.hbm, 242, rfl⟩
abbrev main_v136 : Ref sig .tc := ⟨.hbm, 243, rfl⟩
abbrev main_c_24 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩

abbrev nD : Nat := 1
abbrev τ : Topo := Topo.v7x

variable {F : FTy → Type} [FloatOps F]

abbrev main_while0_count : Scf.Loop 32 := ⟨0#32, 5000#32, 1#32⟩
-- ==== Proof.KI.Step.lean ====
/-
  One trip of the kernel's loop, as a function of what its buffers hold.

  The loop works on four images at once. Every array is cut into one slab per image; a trip picks, in each slab, the box
  of highest score, strikes out every box that overlaps it, and writes the picked box's row into the output.
-/
module

public import proofs.«01_k».proof.Proof.Gen.KernelIdeal
public import proofs.«01_k».proof.Proof.Gen.KernelIdeal.Skeleton
public import Idealize.ShloMosaic.Lib.ValueIdxCore
public import Idealize.ShloMosaic.Lib.WritesUnit

@[expose] public section

noncomputable section

namespace Cert.Proof.KI

open Cert.KernelIdeal Cert.KernelIdeal.Gen
open Idealize.ShloMosaic Idealize.ShloMosaic.ValueIdx

variable {F : FTy → Type} [FloatOps F]

/-- Whether an image still has a box to pick: its count is below 300 and its highest score above minus infinity. -/
def alive (c : BitVec 32) (x : F .f32) : BitVec 1 :=
  Scalar.andi (Scalar.cmpi .slt c 300#32) (Scalar.cmpf .ogt x (Scalar.ofBits .f32 0xFF800000#32))

/-- A bit widened to a word and tested against zero is the bit. -/
theorem word_eq (x : BitVec 1) : Scalar.cmpi .ne (Scalar.extui x : BitVec 32) 0#32 = x := by
  obtain rfl | rfl : x = 0#1 ∨ x = 1#1 := by
    have h := x.isLt
    rcases Nat.lt_or_ge x.toNat 1 with h' | h'
    · exact .inl (BitVec.eq_of_toNat_eq (show x.toNat = 0 by omega))
    · exact .inr (BitVec.eq_of_toNat_eq (show x.toNat = 1 by omega))
  · rfl
  · rfl

/-- The slab of an image lies inside the stack of four. -/
theorem slab_inb (b : Fin 4) : ∀ a, (![b.val, 0, 0] : Fin 3 → ℕ) a + S1x40x128.size a ≤ S4x40x128.size a
  | ⟨0, _⟩ => Nat.succ_le_of_lt b.isLt
  | ⟨1, _⟩ => Nat.le_refl 40
  | ⟨2, _⟩ => Nat.le_refl 128

/-- Slab `b` of an array of four slabs, read as a load reads it. -/
def slab (d : Vec F S4x40x128 .f32) (b : Fin 4) : Vec F S1x40x128 .f32 :=
  fun x => d ((Rect.unit (s := S4x40x128) ![b.val, 0, 0] S1x40x128.size (slab_inb b)).toLoadRect.idx x)

/-- A plane, read as a load of the whole of it. -/
def plain {e : EltTy} (d : Vec F S40x128 e) : Vec F S40x128 e :=
  fun x => d ((Rect.unit (s := S40x128) ![0, 0] S40x128.size inb_S40x128_S40x128_0_0).toLoadRect.idx x)

/-- Slab `b`, read at an index. -/
theorem slab_apply (d : Vec F S4x40x128 .f32) (b : Fin 4) (x : S1x40x128.Idx) : slab d b x = d (ix3 b (x 1) (x 2)) := by
  unfold slab
  congr 1
  funext a
  have h0 : (x 0).val = 0 := Nat.lt_one_iff.mp (x 0).isLt
  match a with
  | ⟨0, _⟩ => exact Fin.ext (show b.val + 1 * (x 0).val = b.val by omega)
  | ⟨1, _⟩ => exact Fin.ext (show 0 + 1 * (x 1).val = (x 1).val by omega)
  | ⟨2, _⟩ => exact Fin.ext (show 0 + 1 * (x 2).val = (x 2).val by omega)

/-- A load of the whole of a plane is the plane. -/
theorem plain_eq {e : EltTy} (d : Vec F S40x128 e) : plain d = d := by
  funext x
  unfold plain
  congr 1
  funext a
  match a with
  | ⟨0, _⟩ => exact Fin.ext (show 0 + 1 * (x 0).val = (x 0).val by omega)
  | ⟨1, _⟩ => exact Fin.ext (show 0 + 1 * (x 1).val = (x 1).val by omega)

/-- What a trip reads and does not change: the linear index, the corners and area of the boxes shifted by class, the
    corners of the boxes themselves, the class. -/
structure Geo (F : FTy → Type) where
  ix : Vec F S40x128 .i32
  ox1 : Vec F S4x40x128 .f32
  oy1 : Vec F S4x40x128 .f32
  ox2 : Vec F S4x40x128 .f32
  oy2 : Vec F S4x40x128 .f32
  ar : Vec F S4x40x128 .f32
  bx1 : Vec F S4x40x128 .f32
  by1 : Vec F S4x40x128 .f32
  bx2 : Vec F S4x40x128 .f32
  by2 : Vec F S4x40x128 .f32
  cl : Vec F S4x40x128 .f32

/-- What a trip changes: per image the count of rows written and the highest score, the scores, the output. -/
structure St (F : FTy → Type) where
  cnt : Fin 4 → BitVec 32
  m : Fin 4 → F .f32
  s : Vec F S4x40x128 .f32
  o : Vec F S4x300x6 .f32

/-! ### The scores after a trip, and the row of the picked box, as the four copies of the body spell them

Each is a function of what is read: whether the image is alive, its highest score, the index plane, and its slabs. -/

section Spelled

variable (a : BitVec 1) (m : F .f32) (ix : Vec F S40x128 .i32) (s x1 y1 x2 y2 ar bx1 by1 bx2 by2 cl : Vec F S1x40x128 .f32)

/-- The first copy's scores. -/
def plane0 : FVec F S40x128 .f32 :=
  k0_pay301 a (k0_pay292 s) (k0_pay293 m ix s) (k0_pay297 (k0_pay293 m ix s) ar)
    (k0_pay298 (k0_pay295 m ix s y1) y1) (k0_pay299 (k0_pay293 m ix s) y2 y2)
    (k0_pay300 (k0_pay294 m ix s x1) (k0_pay296 m ix s x2) x1 x2) ar

/-- The second copy's scores. -/
def plane1 : FVec F S40x128 .f32 :=
  k0_pay316 a (k0_pay307 s) (k0_pay308 m ix s) (k0_pay312 (k0_pay308 m ix s) ar)
    (k0_pay313 (k0_pay309 m ix s x1) (k0_pay311 m ix s x2) x1 x2)
    (k0_pay314 (k0_pay308 m ix s) (k0_pay310 m ix s y1) y2 y1 y2) k0_pay315 ar

/-- The third copy's scores. -/
def plane2 : FVec F S40x128 .f32 :=
  k0_pay333 a (k0_pay324 s) (k0_pay325 m ix s) (k0_pay331 (k0_pay325 m ix s) ar)
    (k0_pay332 (k0_pay325 m ix s) (k0_pay326 m ix s x1) (k0_pay327 m ix s y1) (k0_pay328 m ix s x2) (k0_pay329 y2) k0_pay330 x1 y1 x2 y2)
    ar

/-- The fourth copy's mask. -/
def sel3 : IVec S40x128 1 := k0_pay343 (F := F) ix (k0_pay341 m s) k0_pay342

/-- The fourth copy's scores. -/
def plane3 : FVec F S40x128 .f32 :=
  k0_pay349 a (k0_pay340 s) (sel3 m ix s)
    (k0_pay348 (sel3 m ix s) (k0_pay344 ix (k0_pay341 m s) k0_pay342 x1) (k0_pay345 ix (k0_pay341 m s) k0_pay342 y1)
      (k0_pay346 ix (k0_pay341 m s) k0_pay342 x2) (k0_pay347 ix (k0_pay341 m s) k0_pay342 y2) ar x1 y1 x2 y2 ar)
    (Scalar.ofBits .f32 0x3F000000#32)

/-- The first copy's row. -/
def row0 : FVec F S1x1x6 .f32 :=
  k0_pay305 m (k0_pay293 m ix s) (k0_pay303 (k0_pay293 m ix s) bx1) (k0_pay304 (k0_pay293 m ix s) by1) bx2 by2 cl

/-- The second copy's row. -/
def row1 : FVec F S1x1x6 .f32 :=
  k0_pay322 m (k0_pay308 m ix s) (k0_pay318 (k0_pay308 m ix s) bx1) (k0_pay319 (k0_pay308 m ix s) by1) (k0_pay320 bx2) k0_pay321 by2 cl

/-- The third copy's row. -/
def row2 : FVec F S1x1x6 .f32 :=
  k0_pay338 m (k0_pay325 m ix s) (k0_pay335 (k0_pay325 m ix s) bx1) (k0_pay336 (k0_pay325 m ix s) by1)
    (k0_pay337 (k0_pay325 m ix s) bx2) by2 cl

/-- The fourth copy's row. -/
def row3 : FVec F S1x1x6 .f32 :=
  k0_pay2 m (sel3 m ix s) (k0_pay351 (sel3 m ix s) bx1) (k0_pay352 (sel3 m ix s) by1) (k0_pay353 (sel3 m ix s) bx2) (k0_pay354 by2)
    (Scalar.ofBits .f32 0x00000000#32) cl

/-- The four copies compute the same scores. -/
theorem plane1_eq : plane1 a m ix s x1 y1 x2 y2 ar = plane0 a m ix s x1 y1 x2 y2 ar := rfl

/-- The third image is suppressed as the first is. -/
theorem plane2_eq : plane2 a m ix s x1 y1 x2 y2 ar = plane0 a m ix s x1 y1 x2 y2 ar := rfl

/-- The fourth image is suppressed as the first is. -/
theorem plane3_eq : plane3 a m ix s x1 y1 x2 y2 ar = plane0 a m ix s x1 y1 x2 y2 ar := rfl

/-- The four copies compute the same row. -/
theorem row1_eq : row1 m ix s bx1 by1 bx2 by2 cl = row0 m ix s bx1 by1 bx2 by2 cl := rfl

/-- The row of the third image is made as that of the first is. -/
theorem row2_eq : row2 m ix s bx1 by1 bx2 by2 cl = row0 m ix s bx1 by1 bx2 by2 cl := rfl

/-- The row of the fourth image is made as that of the first is. -/
theorem row3_eq : row3 m ix s bx1 by1 bx2 by2 cl = row0 m ix s bx1 by1 bx2 by2 cl := rfl

/-- The four copies compute the same maximum. -/
theorem max1_eq (v : FVec F S40x128 .f32) : k0_pay323 v = k0_pay306 v := rfl

/-- The maximum of the third image is taken as that of the first is. -/
theorem max2_eq (v : FVec F S40x128 .f32) : k0_pay339 v = k0_pay306 v := rfl

/-- The maximum of the fourth image is taken as that of the first is. -/
theorem max3_eq (v : FVec F S40x128 .f32) : k0_pay3 v = k0_pay306 v := rfl

/-- The four copies store the plane of scores as a slab. -/
theorem slab0_eq : k0_pay302 a (k0_pay292 s) (k0_pay293 m ix s) (k0_pay297 (k0_pay293 m ix s) ar)
    (k0_pay298 (k0_pay295 m ix s y1) y1) (k0_pay299 (k0_pay293 m ix s) y2 y2)
    (k0_pay300 (k0_pay294 m ix s x1) (k0_pay296 m ix s x2) x1 x2) ar
      = shapeCast S1x40x128 (plane0 a m ix s x1 y1 x2 y2 ar) shapeCasts_S40x128_S1x40x128 := rfl

/-- What is stored for the second image is its suppressed scores. -/
theorem slab1_eq : k0_pay317 a (k0_pay307 s) (k0_pay308 m ix s) (k0_pay312 (k0_pay308 m ix s) ar)
    (k0_pay313 (k0_pay309 m ix s x1) (k0_pay311 m ix s x2) x1 x2)
    (k0_pay314 (k0_pay308 m ix s) (k0_pay310 m ix s y1) y2 y1 y2) k0_pay315 ar
      = shapeCast S1x40x128 (plane0 a m ix s x1 y1 x2 y2 ar) shapeCasts_S40x128_S1x40x128 := rfl

/-- What is stored for the third image is its suppressed scores. -/
theorem slab2_eq : k0_pay334 a (k0_pay324 s) (k0_pay325 m ix s) (k0_pay331 (k0_pay325 m ix s) ar)
    (k0_pay332 (k0_pay325 m ix s) (k0_pay326 m ix s x1) (k0_pay327 m ix s y1) (k0_pay328 m ix s x2) (k0_pay329 y2) k0_pay330 x1 y1 x2 y2)
    ar = shapeCast S1x40x128 (plane0 a m ix s x1 y1 x2 y2 ar) shapeCasts_S40x128_S1x40x128 := rfl

/-- What is stored for the fourth image is its suppressed scores. -/
theorem slab3_eq : k0_pay350 a (k0_pay340 s) (sel3 m ix s)
    (k0_pay348 (sel3 m ix s) (k0_pay344 ix (k0_pay341 m s) k0_pay342 x1) (k0_pay345 ix (k0_pay341 m s) k0_pay342 y1)
      (k0_pay346 ix (k0_pay341 m s) k0_pay342 x2) (k0_pay347 ix (k0_pay341 m s) k0_pay342 y2) ar x1 y1 x2 y2 ar)
    (Scalar.ofBits .f32 0x3F000000#32)
      = shapeCast S1x40x128 (plane0 a m ix s x1 y1 x2 y2 ar) shapeCasts_S40x128_S1x40x128 := rfl

end Spelled

namespace St

variable (g : Geo F) (st : St F) (b : Fin 4)

/-- Whether image `b` still has a box to pick. -/
def al : BitVec 1 := alive (st.cnt b) (st.m b)

/-- The scores of image `b` after the trip, as a plane. -/
def plane : FVec F S40x128 .f32 :=
  plane0 (st.al b) (st.m b) (plain g.ix) (slab st.s b) (slab g.ox1 b) (slab g.oy1 b) (slab g.ox2 b) (slab g.oy2 b) (slab g.ar b)

/-- The scores of image `b` after the trip, as the slab stored. -/
def slabNew : FVec F S1x40x128 .f32 := shapeCast S1x40x128 (st.plane g b) shapeCasts_S40x128_S1x40x128

/-- The row of the box picked in image `b`. -/
def row : FVec F S1x1x6 .f32 :=
  row0 (st.m b) (plain g.ix) (slab st.s b) (slab g.bx1 b) (slab g.by1 b) (slab g.bx2 b) (slab g.by2 b) (slab g.cl b)

/-- The buffers after the trip. -/
def step : St F where
  cnt b := Scalar.select (st.al b) (Scalar.addi (st.cnt b) 1#32) (st.cnt b)
  m b := k0_pay306 (st.plane g b)
  s y := st.slabNew g (y 0) (ix3 (n0 := 1) 0 (y 1) (y 2))
  o y := if st.al (y 0) = 1#1 ∧ (y 1).val = (st.cnt (y 0)).toNat then st.row g (y 0) (ix3 (n0 := 1) (n1 := 1) 0 0 (y 2)) else st.o y

/-- The maximum of an image after a trip is that of its suppressed scores. -/
theorem step_m : (st.step g).m b = k0_pay306 (st.plane g b) := by simp only [step]

/-- The loop's test. -/
def go : BitVec 1 := Scalar.ori (Scalar.ori (Scalar.ori (st.al 0) (st.al 1)) (st.al 2)) (st.al 3)

/-- The loop with at most `k` trips. -/
def run : ℕ → St F → St F
  | 0, st => st
  | k + 1, st => if st.go = 1#1 then run k (st.step g) else st

end St

/-! ### Reading the buffers the trip stores into -/

variable {κ : Kind} {sp : Space}

/-- A store of one row into the output, under a condition, read at an index. -/
theorem read_if (v : View sig κ sp S4x300x6 .f32) (P : Prop) [Decidable P] (f : v.ty.Contents (Elt F)) (off : Fin 3 → ℕ)
    (inb : P → ∀ a, off a + S1x1x6.size a ≤ S4x300x6.size a) (w : Vec F S1x1x6 .f32) (b : Fin 4) (k : ℕ)
    (hoff : off = ![b.val, k, 0]) (y : S4x300x6.Idx) :
    v.read (Elt F) (if h : P then v.writes (Elt F) f [⟨Rect.unit off S1x1x6.size (inb h), w⟩] else f) y
      = if P ∧ (y 0).val = b.val ∧ (y 1).val = k then w (ix3 (n0 := 1) (n1 := 1) 0 0 (y 2)) else v.read (Elt F) f y := by
  by_cases hP : P
  · rw [dif_pos hP]
    by_cases h : (y 0).val = b.val ∧ (y 1).val = k
    · rw [if_pos ⟨hP, h⟩]
      refine View.read_writes_cons_unit_of_mem v f (inb hP) w [] y _ hoff fun a => ?_
      match a with
      | ⟨0, _⟩ => show (y 0).val = b.val + 0; rw [h.1, Nat.add_zero]
      | ⟨1, _⟩ => show (y 1).val = k + 0; rw [h.2, Nat.add_zero]
      | ⟨2, _⟩ => show (y 2).val = 0 + (y 2).val; rw [Nat.zero_add]
    · rw [if_neg fun h' => h h'.2]
      have hm : (y 0).val ≠ b.val ∨ (y 1).val ≠ k := by
        by_contra hc
        push Not at hc
        exact h hc
      rcases hm with hm | hm
      · refine (View.read_writes_cons_unit_of_not_mem v f (inb hP) w [] y hoff 0 ?_).trans rfl
        show (y 0).val < b.val ∨ b.val + 1 ≤ (y 0).val
        omega
      · refine (View.read_writes_cons_unit_of_not_mem v f (inb hP) w [] y hoff 1 ?_).trans rfl
        show (y 1).val < k ∨ k + 1 ≤ (y 1).val
        omega
  · rw [dif_neg hP, if_neg fun h' => hP h'.1]

/-- Four rows stored, one per image, each under its condition, read at an index. -/
theorem read_rows (v : View sig κ sp S4x300x6 .f32) (f : v.ty.Contents (Elt F)) (A : Fin 4 → BitVec 1) (k : Fin 4 → ℕ)
    (w : Fin 4 → Vec F S1x1x6 .f32) (a0 a1 a2 a3 : BitVec 1) (off0 off1 off2 off3 : Fin 3 → ℕ)
    (inb0 : a0 = 1#1 → ∀ a, off0 a + S1x1x6.size a ≤ S4x300x6.size a)
    (inb1 : a1 = 1#1 → ∀ a, off1 a + S1x1x6.size a ≤ S4x300x6.size a)
    (inb2 : a2 = 1#1 → ∀ a, off2 a + S1x1x6.size a ≤ S4x300x6.size a)
    (inb3 : a3 = 1#1 → ∀ a, off3 a + S1x1x6.size a ≤ S4x300x6.size a)
    (w0 w1 w2 w3 : Vec F S1x1x6 .f32) (ha0 : a0 = A 0) (ha1 : a1 = A 1) (ha2 : a2 = A 2) (ha3 : a3 = A 3)
    (ho0 : off0 = ![0, k 0, 0]) (ho1 : off1 = ![1, k 1, 0]) (ho2 : off2 = ![2, k 2, 0]) (ho3 : off3 = ![3, k 3, 0])
    (h0 : w0 = w 0) (h1 : w1 = w 1) (h2 : w2 = w 2) (h3 : w3 = w 3)
    (f1 f2 f3 f4 : v.ty.Contents (Elt F))
    (e1 : f1 = if h : a0 = 1#1 then v.writes (Elt F) f [⟨Rect.unit off0 S1x1x6.size (inb0 h), w0⟩] else f)
    (e2 : f2 = if h : a1 = 1#1 then v.writes (Elt F) f1 [⟨Rect.unit off1 S1x1x6.size (inb1 h), w1⟩] else f1)
    (e3 : f3 = if h : a2 = 1#1 then v.writes (Elt F) f2 [⟨Rect.unit off2 S1x1x6.size (inb2 h), w2⟩] else f2)
    (e4 : f4 = if h : a3 = 1#1 then v.writes (Elt F) f3 [⟨Rect.unit off3 S1x1x6.size (inb3 h), w3⟩] else f3)
    (y : S4x300x6.Idx) :
    v.read (Elt F) f4 y = if A (y 0) = 1#1 ∧ (y 1).val = k (y 0) then w (y 0) (ix3 (n0 := 1) (n1 := 1) 0 0 (y 2)) else v.read (Elt F) f y := by
  rw [e4, read_if v _ _ off3 inb3 w3 3 (k 3) ho3 y, e3, read_if v _ _ off2 inb2 w2 2 (k 2) ho2 y,
    e2, read_if v _ _ off1 inb1 w1 1 (k 1) ho1 y, e1, read_if v _ _ off0 inb0 w0 0 (k 0) ho0 y, ha0, ha1, ha2, ha3, h0, h1, h2, h3]
  generalize v.read (Elt F) f y = r
  obtain ⟨b, hb⟩ : ∃ b : Fin 4, y 0 = b := ⟨_, rfl⟩
  generalize (y 1).val = n
  rw [hb]
  clear hb e1 e2 e3 e4
  match b with
  | 0 => simp
  | 1 => simp
  | 2 => simp
  | 3 => simp

/-- Four slabs stored, one per image, read at an index. -/
theorem read_slabs (v : View sig κ sp S4x40x128 .f32) (f : v.ty.Contents (Elt F)) (w : Fin 4 → Vec F S1x40x128 .f32)
    (i0 : ∀ a, (![0, 0, 0] : Fin 3 → ℕ) a + S1x40x128.size a ≤ S4x40x128.size a)
    (i1 : ∀ a, (![1, 0, 0] : Fin 3 → ℕ) a + S1x40x128.size a ≤ S4x40x128.size a)
    (i2 : ∀ a, (![2, 0, 0] : Fin 3 → ℕ) a + S1x40x128.size a ≤ S4x40x128.size a)
    (i3 : ∀ a, (![3, 0, 0] : Fin 3 → ℕ) a + S1x40x128.size a ≤ S4x40x128.size a)
    (w0 w1 w2 w3 : Vec F S1x40x128 .f32) (h0 : w0 = w 0) (h1 : w1 = w 1) (h2 : w2 = w 2) (h3 : w3 = w 3) (y : S4x40x128.Idx) :
    v.read (Elt F) (v.writes (Elt F) f
      [⟨Rect.unit ![3, 0, 0] S1x40x128.size i3, w3⟩, ⟨Rect.unit ![2, 0, 0] S1x40x128.size i2, w2⟩,
       ⟨Rect.unit ![1, 0, 0] S1x40x128.size i1, w1⟩, ⟨Rect.unit ![0, 0, 0] S1x40x128.size i0, w0⟩]) y
      = w (y 0) (ix3 (n0 := 1) 0 (y 1) (y 2)) := by
  subst h0 h1 h2 h3
  have key : ∀ (b : Fin 4) (i : ∀ a, (![b.val, 0, 0] : Fin 3 → ℕ) a + S1x40x128.size a ≤ S4x40x128.size a) (x : S1x40x128.Idx),
      w b x = (fun y : S4x40x128.Idx => w (y 0) (ix3 (n0 := 1) 0 (y 1) (y 2)))
        ((Rect.unit (s := S4x40x128) ![b.val, 0, 0] S1x40x128.size i).emb x) := by
    intro b i x
    have hx : (x 0).val = 0 := Nat.lt_one_iff.mp (x 0).isLt
    have e0 : ((Rect.unit (s := S4x40x128) ![b.val, 0, 0] S1x40x128.size i).emb x) 0 = b := by
      apply Fin.ext; show b.val + 1 * (x 0).val = b.val; omega
    show w b x = w _ _
    rw [e0]
    congr 1
    funext a
    match a with
    | ⟨0, _⟩ => exact Fin.ext hx
    | ⟨1, _⟩ => exact Fin.ext (show (x 1).val = 0 + 1 * (x 1).val by omega)
    | ⟨2, _⟩ => exact Fin.ext (show (x 2).val = 0 + 1 * (x 2).val by omega)
  refine View.read_writes_apply_of_pieces v f (fun y : S4x40x128.Idx => w (y 0) (ix3 (n0 := 1) 0 (y 1) (y 2))) _ ?_ y ?_
  · intro p hp
    rcases List.mem_cons.mp hp with rfl | hp
    · exact key 3 i3
    rcases List.mem_cons.mp hp with rfl | hp
    · exact key 2 i2
    rcases List.mem_cons.mp hp with rfl | hp
    · exact key 1 i1
    rcases List.mem_cons.mp hp with rfl | hp
    · exact key 0 i0
    exact absurd hp List.not_mem_nil
  · have hmem : ∀ (b : Fin 4) (i : ∀ a, (![b.val, 0, 0] : Fin 3 → ℕ) a + S1x40x128.size a ≤ S4x40x128.size a), y 0 = b →
        y ∈ (Rect.unit (s := S4x40x128) ![b.val, 0, 0] S1x40x128.size i).set := by
      intro b i hb
      rw [Rect.mem_set_unit]
      intro a
      match a with
      | ⟨0, _⟩ => rw [← hb]; exact ⟨le_rfl, Nat.lt_succ_self _⟩
      | ⟨1, _⟩ => exact ⟨Nat.zero_le _, by show (y 1).val < 0 + 40; have : (y 1).val < 40 := (y 1).isLt; omega⟩
      | ⟨2, _⟩ => exact ⟨Nat.zero_le _, by show (y 2).val < 0 + 128; have : (y 2).val < 128 := (y 2).isLt; omega⟩
    have hb : y 0 = (0 : Fin 4) ∨ y 0 = (1 : Fin 4) ∨ y 0 = (2 : Fin 4) ∨ y 0 = (3 : Fin 4) := by
      generalize (y 0 : Fin 4) = q
      rcases q with ⟨v, hv⟩
      match v, hv with
      | 0, _ => exact .inl rfl
      | 1, _ => exact .inr (.inl rfl)
      | 2, _ => exact .inr (.inr (.inl rfl))
      | 3, _ => exact .inr (.inr (.inr rfl))
    rcases hb with h | h | h | h
    · exact ⟨_, List.Mem.tail _ (List.Mem.tail _ (List.Mem.tail _ (List.Mem.head _))), hmem 0 i0 h⟩
    · exact ⟨_, List.Mem.tail _ (List.Mem.tail _ (List.Mem.head _)), hmem 1 i1 h⟩
    · exact ⟨_, List.Mem.tail _ (List.Mem.head _), hmem 2 i2 h⟩
    · exact ⟨_, List.Mem.head _, hmem 3 i3 h⟩

end Cert.Proof.KI

end
-- ==== Proof.KI.Trip.lean ====
/-
  One trip of the kernel's loop, run: from the buffers held at a state, the body ends by calling the loop again with the
  buffers held at the state after one trip.
-/
module

public import proofs.«01_k».proof.Proof.KI.Step
public import Idealize.ShloMosaic.Lib.Tactic
public import Idealize.ShloMosaic.Lib.Pipeline.Frame
public import Idealize.ShloMosaic.Lib.Pipeline.Kit

@[expose] public section

set_option maxRecDepth 16384

noncomputable section

namespace Cert.Proof.KI

open Cert.KernelIdeal Cert.KernelIdeal.Gen
open Idealize.ShloMosaic Idealize.ShloMosaic.Rounds Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (URounds (GSem nD τ sig) Unit) ℕ

/-- The memrefs the loop closes over. -/
structure Mems where
  ix : Memref sig .tc .vmem S40x128 .i32
  hix : ix.IsWhole
  s : Memref sig .tc .vmem S4x40x128 .f32
  hs : s.IsWhole
  ox1 : Memref sig .tc .vmem S4x40x128 .f32
  hox1 : ox1.IsWhole
  oy1 : Memref sig .tc .vmem S4x40x128 .f32
  hoy1 : oy1.IsWhole
  ox2 : Memref sig .tc .vmem S4x40x128 .f32
  hox2 : ox2.IsWhole
  oy2 : Memref sig .tc .vmem S4x40x128 .f32
  hoy2 : oy2.IsWhole
  ar : Memref sig .tc .vmem S4x40x128 .f32
  har : ar.IsWhole
  bx1 : Memref sig .tc .vmem S4x40x128 .f32
  hbx1 : bx1.IsWhole
  by1 : Memref sig .tc .vmem S4x40x128 .f32
  hby1 : by1.IsWhole
  bx2 : Memref sig .tc .vmem S4x40x128 .f32
  hbx2 : bx2.IsWhole
  by2 : Memref sig .tc .vmem S4x40x128 .f32
  hby2 : by2.IsWhole
  cl : Memref sig .tc .vmem S4x40x128 .f32
  hcl : cl.IsWhole
  o : Memref sig .tc .vmem S4x300x6 .f32
  ho : o.IsWhole

/-- The buffers held at a state. -/
def held (c : Dev nD) (M : Mems) (g : Geo F) (st : St F) : sProp 𝕄 :=
  iprop(owns (c : Thread nD τ) M.ix fullShare g.ix ∗ owns (c : Thread nD τ) M.s fullShare st.s
    ∗ owns (c : Thread nD τ) M.ox1 fullShare g.ox1 ∗ owns (c : Thread nD τ) M.oy1 fullShare g.oy1
    ∗ owns (c : Thread nD τ) M.ox2 fullShare g.ox2 ∗ owns (c : Thread nD τ) M.oy2 fullShare g.oy2
    ∗ owns (c : Thread nD τ) M.ar fullShare g.ar
    ∗ owns (c : Thread nD τ) M.bx1 fullShare g.bx1 ∗ owns (c : Thread nD τ) M.by1 fullShare g.by1
    ∗ owns (c : Thread nD τ) M.bx2 fullShare g.bx2 ∗ owns (c : Thread nD τ) M.by2 fullShare g.by2
    ∗ owns (c : Thread nD τ) M.cl fullShare g.cl ∗ owns (c : Thread nD τ) M.o fullShare st.o)

/-- The loop's body on the memrefs at the carried values of a state. -/
abbrev body (M : Mems) (st : St F) :=
  cc0_while1 (F := F) M.ix M.hix M.s M.hs M.ox1 M.hox1 M.oy1 M.hoy1 M.ox2 M.hox2 M.oy2 M.hoy2 M.ar M.har M.bx1 M.hbx1
    M.by1 M.hby1 M.bx2 M.hbx2 M.by2 M.hby2 M.cl M.hcl M.o M.ho (st.cnt 0) (st.cnt 1) (st.cnt 2) (st.cnt 3)
    (st.m 0) (st.m 1) (st.m 2) (st.m 3)

/-- The argument of the loop's label at the carried values of a state. -/
abbrev arg (M : Mems) (st : St F) : Cc0While1 F :=
  ⟨M.ix, M.hix, M.s, M.hs, M.ox1, M.hox1, M.oy1, M.hoy1, M.ox2, M.hox2, M.oy2, M.hoy2, M.ar, M.har, M.bx1, M.hbx1,
    M.by1, M.hby1, M.bx2, M.hbx2, M.by2, M.hby2, M.cl, M.hcl, M.o, M.ho, st.cnt 0, st.cnt 1, st.cnt 2, st.cnt 3,
    st.m 0, st.m 1, st.m 2, st.m 3⟩

attribute [local irreducible] k0_pay306 k0_pay323 k0_pay339 k0_pay3 k0_pay302 k0_pay317 k0_pay334 k0_pay350 k0_pay305 k0_pay322 k0_pay338 k0_pay2 in
set_option maxHeartbeats 4000000 in
/-- One trip, run. -/
theorem trip (c : Dev nD) (u : Option ℕ) (M : Mems) (g : Geo F) (st : St F)
    (hc0 : ∀ v, k0_chk1 (st.cnt 0) v) (hc1 : ∀ v, k0_chk2 (st.cnt 1) v) (hc2 : ∀ v, k0_chk3 (st.cnt 2) v)
    (hc3 : ∀ v, k0_chk4 (st.cnt 3) v) (hgo : st.go = 1#1) (E : Set ℕ)
    (Q : (BitVec 32 × BitVec 32 × BitVec 32 × BitVec 32 × F .f32 × F .f32 × F .f32 × F .f32) → sProp 𝕄) :
    iprop(held c M g st ∗ (held c M g (st.step g) -∗ wp frame (wpE (defs₀ (F := F)) Variants.nat c u) E
        (Prog.op (TpuEff.call (Λ := Λ₀ F) 1 (arg M (st.step g))) Prog.ret) Q))
      ⊢ wp frame (wpE (defs₀ (F := F)) Variants.nat c u) E (body M st) Q := by
  simp only [body, cc0_while1_eq_skeleton]; unfold cc0_while1_skel held owns
  iintro ⟨⟨⟨%f13, %e13, H13⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f1, %e1, H1⟩⟩, Hk⟩
  unfold St.go St.al alive at hgo
  simp only [hgo, ↓reduceIte]
  sl_exec_parts (disch := first | sl_exact (hc0 _) | sl_exact (hc1 _) | sl_exact (hc2 _) | sl_exact (hc3 _))
  obtain ⟨cnt, m, s, o⟩ := st
  obtain ⟨ix, ox1, oy1, ox2, oy2, ar, bx1, by1, bx2, by2, cl⟩ := g
  dsimp only at e13 e2 e3 e4 e5 e6 e7 e8 e9 e10 e11 e12 e1
  subst e13 e2 e3 e4 e5 e6 e7 e8 e9 e10 e11 e12 e1
  have hp0 : trip.sl.r_10 c M ⟨cnt, m, M.s.view.read (Elt F) f2, M.o.view.read (Elt F) f1⟩ f13 f2 f3 f4 f5 f6 f7
      = plane0 (alive (cnt 0) (m 0)) (m 0) (plain (M.ix.view.read (Elt F) f13)) (slab (M.s.view.read (Elt F) f2) 0) (slab (M.ox1.view.read (Elt F) f3) 0) (slab (M.oy1.view.read (Elt F) f4) 0)
      (slab (M.ox2.view.read (Elt F) f5) 0) (slab (M.oy2.view.read (Elt F) f6) 0) (slab (M.ar.view.read (Elt F) f7) 0) := rfl
  have hp1 : trip.sl.r_22 c M ⟨cnt, m, M.s.view.read (Elt F) f2, M.o.view.read (Elt F) f1⟩ f13 f2 f3 f4 f5 f6 f7
      = plane1 (alive (cnt 1) (m 1)) (m 1) (plain (M.ix.view.read (Elt F) f13)) (slab (M.s.view.read (Elt F) f2) 1) (slab (M.ox1.view.read (Elt F) f3) 1) (slab (M.oy1.view.read (Elt F) f4) 1)
      (slab (M.ox2.view.read (Elt F) f5) 1) (slab (M.oy2.view.read (Elt F) f6) 1) (slab (M.ar.view.read (Elt F) f7) 1) := rfl
  have hp2 : trip.sl.r_36 c M ⟨cnt, m, M.s.view.read (Elt F) f2, M.o.view.read (Elt F) f1⟩ f13 f2 f3 f4 f5 f6 f7
      = plane2 (alive (cnt 2) (m 2)) (m 2) (plain (M.ix.view.read (Elt F) f13)) (slab (M.s.view.read (Elt F) f2) 2) (slab (M.ox1.view.read (Elt F) f3) 2) (slab (M.oy1.view.read (Elt F) f4) 2)
      (slab (M.ox2.view.read (Elt F) f5) 2) (slab (M.oy2.view.read (Elt F) f6) 2) (slab (M.ar.view.read (Elt F) f7) 2) := rfl
  have hp3 : trip.sl.r_49 c M ⟨cnt, m, M.s.view.read (Elt F) f2, M.o.view.read (Elt F) f1⟩ f13 f2 f3 f4 f5 f6 f7
      = plane3 (alive (cnt 3) (m 3)) (m 3) (plain (M.ix.view.read (Elt F) f13)) (slab (M.s.view.read (Elt F) f2) 3) (slab (M.ox1.view.read (Elt F) f3) 3) (slab (M.oy1.view.read (Elt F) f4) 3)
      (slab (M.ox2.view.read (Elt F) f5) 3) (slab (M.oy2.view.read (Elt F) f6) 3) (slab (M.ar.view.read (Elt F) f7) 3) := rfl
  have hq0 : trip.sl.r_10 c M ⟨cnt, m, M.s.view.read (Elt F) f2, M.o.view.read (Elt F) f1⟩ f13 f2 f3 f4 f5 f6 f7 = St.plane
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩ 0 := hp0
  have hq1 : trip.sl.r_22 c M ⟨cnt, m, M.s.view.read (Elt F) f2, M.o.view.read (Elt F) f1⟩ f13 f2 f3 f4 f5 f6 f7 = St.plane
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩ 1 := hp1.trans (plane1_eq _ _ _ _ _ _ _ _ _)
  have hq2 : trip.sl.r_36 c M ⟨cnt, m, M.s.view.read (Elt F) f2, M.o.view.read (Elt F) f1⟩ f13 f2 f3 f4 f5 f6 f7 = St.plane
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩ 2 := hp2.trans (plane2_eq _ _ _ _ _ _ _ _ _)
  have hq3 : trip.sl.r_49 c M ⟨cnt, m, M.s.view.read (Elt F) f2, M.o.view.read (Elt F) f1⟩ f13 f2 f3 f4 f5 f6 f7 = St.plane
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩ 3 := hp3.trans (plane3_eq _ _ _ _ _ _ _ _ _)
  have hm0 : trip.sl.r_13 c M ⟨cnt, m, M.s.view.read (Elt F) f2, M.o.view.read (Elt F) f1⟩ f13 f2 f3 f4 f5 f6 f7 = (St.step
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩).m 0 := congrArg k0_pay306 hq0
  have hm1 : trip.sl.r_26 c M ⟨cnt, m, M.s.view.read (Elt F) f2, M.o.view.read (Elt F) f1⟩ f13 f2 f3 f4 f5 f6 f7 = (St.step
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩).m 1 :=
    (show _ = k0_pay323 (trip.sl.r_22 c M ⟨cnt, m, M.s.view.read (Elt F) f2, M.o.view.read (Elt F) f1⟩ f13 f2 f3 f4 f5 f6 f7) from rfl).trans ((max1_eq _).trans ((congrArg k0_pay306 hq1).trans (St.step_m _ _ 1).symm))
  have hm2 : trip.sl.r_40 c M ⟨cnt, m, M.s.view.read (Elt F) f2, M.o.view.read (Elt F) f1⟩ f13 f2 f3 f4 f5 f6 f7 = (St.step
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩).m 2 :=
    (show _ = k0_pay339 (trip.sl.r_36 c M ⟨cnt, m, M.s.view.read (Elt F) f2, M.o.view.read (Elt F) f1⟩ f13 f2 f3 f4 f5 f6 f7) from rfl).trans ((max2_eq _).trans ((congrArg k0_pay306 hq2).trans (St.step_m _ _ 2).symm))
  have hm3 : k0_pay3 (trip.sl.r_49 c M ⟨cnt, m, M.s.view.read (Elt F) f2, M.o.view.read (Elt F) f1⟩ f13 f2 f3 f4 f5 f6 f7) = (St.step
      ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩
      ⟨cnt, m, M.s.view.read (Elt F) f2, M.o.view.read (Elt F) f1⟩).m 3 :=
    (show _ = k0_pay3 (trip.sl.r_49 c M ⟨cnt, m, M.s.view.read (Elt F) f2, M.o.view.read (Elt F) f1⟩ f13 f2 f3 f4 f5 f6 f7) from rfl).trans ((max3_eq _).trans ((congrArg k0_pay306 hq3).trans (St.step_m _ _ 3).symm))
  rw [hm0, hm1, hm2, hm3]
  clear hm0 hm1 hm2 hm3
  iapply Hk
  isplitl [H13]
  · iexists _; isplitr; swap; · iexact H13
    ipureintro; rfl
  isplitl [H2]
  · iexists _; isplitr; swap; · iexact H2
    ipureintro
    refine funext fun y => read_slabs M.s.view f2 (St.slabNew ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩ ⟨cnt, m, M.s.view.read (Elt F) f2, M.o.view.read (Elt F) f1⟩) _ _ _ _ _ _ _ _ ?_ ?_ ?_ ?_ y
    · exact slab0_eq (alive (cnt 0) (m 0)) (m 0) (plain (M.ix.view.read (Elt F) f13)) (slab (M.s.view.read (Elt F) f2) 0)
        (slab (M.ox1.view.read (Elt F) f3) 0) (slab (M.oy1.view.read (Elt F) f4) 0) (slab (M.ox2.view.read (Elt F) f5) 0) (slab (M.oy2.view.read (Elt F) f6) 0) (slab (M.ar.view.read (Elt F) f7) 0)
    · exact slab1_eq (alive (cnt 1) (m 1)) (m 1) (plain (M.ix.view.read (Elt F) f13)) (slab (M.s.view.read (Elt F) f2) 1)
        (slab (M.ox1.view.read (Elt F) f3) 1) (slab (M.oy1.view.read (Elt F) f4) 1) (slab (M.ox2.view.read (Elt F) f5) 1) (slab (M.oy2.view.read (Elt F) f6) 1) (slab (M.ar.view.read (Elt F) f7) 1)
    · exact slab2_eq (alive (cnt 2) (m 2)) (m 2) (plain (M.ix.view.read (Elt F) f13)) (slab (M.s.view.read (Elt F) f2) 2)
        (slab (M.ox1.view.read (Elt F) f3) 2) (slab (M.oy1.view.read (Elt F) f4) 2) (slab (M.ox2.view.read (Elt F) f5) 2) (slab (M.oy2.view.read (Elt F) f6) 2) (slab (M.ar.view.read (Elt F) f7) 2)
    · exact slab3_eq (alive (cnt 3) (m 3)) (m 3) (plain (M.ix.view.read (Elt F) f13)) (slab (M.s.view.read (Elt F) f2) 3)
        (slab (M.ox1.view.read (Elt F) f3) 3) (slab (M.oy1.view.read (Elt F) f4) 3) (slab (M.ox2.view.read (Elt F) f5) 3) (slab (M.oy2.view.read (Elt F) f6) 3) (slab (M.ar.view.read (Elt F) f7) 3)
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  iexists _; isplitr; swap; · iexact H1
  ipureintro
  funext y
  refine read_rows M.o.view f1 (fun b => alive (cnt b) (m b)) (fun b => (cnt b).toNat) (St.row ⟨M.ix.view.read (Elt F) f13, M.ox1.view.read (Elt F) f3, M.oy1.view.read (Elt F) f4, M.ox2.view.read (Elt F) f5,
      M.oy2.view.read (Elt F) f6, M.ar.view.read (Elt F) f7, M.bx1.view.read (Elt F) f8, M.by1.view.read (Elt F) f9,
      M.bx2.view.read (Elt F) f10, M.by2.view.read (Elt F) f11, M.cl.view.read (Elt F) f12⟩ ⟨cnt, m, M.s.view.read (Elt F) f2, M.o.view.read (Elt F) f1⟩)
      ?a0 ?a1 ?a2 ?a3 ?o0 ?o1 ?o2 ?o3 ?i0 ?i1 ?i2 ?i3 ?w0 ?w1 ?w2 ?w3 ?ha0 ?ha1 ?ha2 ?ha3 ?ho0 ?ho1 ?ho2 ?ho3 ?h0 ?h1 ?h2 ?h3
      ?f1 ?f2 ?f3 ?f4 ?e1 ?e2 ?e3 ?e4 y
  case e4 => exact rfl
  case e3 => exact rfl
  case e2 => exact rfl
  case e1 => exact rfl
  case ha0 => exact word_eq (alive (cnt 0) (m 0))
  case ha1 => exact word_eq (alive (cnt 1) (m 1))
  case ha2 => exact word_eq (alive (cnt 2) (m 2))
  case ha3 => exact word_eq (alive (cnt 3) (m 3))
  case ho0 => rfl
  case ho1 => rfl
  case ho2 => rfl
  case ho3 => rfl
  case h0 => exact (show _ = row0 (m 0) (plain (M.ix.view.read (Elt F) f13)) (slab (M.s.view.read (Elt F) f2) 0)
        (slab (M.bx1.view.read (Elt F) f8) 0) (slab (M.by1.view.read (Elt F) f9) 0) (slab (M.bx2.view.read (Elt F) f10) 0) (slab (M.by2.view.read (Elt F) f11) 0) (slab (M.cl.view.read (Elt F) f12) 0) from rfl)
  case h1 => exact (show _ = row1 (m 1) (plain (M.ix.view.read (Elt F) f13)) (slab (M.s.view.read (Elt F) f2) 1)
        (slab (M.bx1.view.read (Elt F) f8) 1) (slab (M.by1.view.read (Elt F) f9) 1) (slab (M.bx2.view.read (Elt F) f10) 1) (slab (M.by2.view.read (Elt F) f11) 1) (slab (M.cl.view.read (Elt F) f12) 1) from rfl).trans (row1_eq (m 1) (plain (M.ix.view.read (Elt F) f13)) (slab (M.s.view.read (Elt F) f2) 1)
        (slab (M.bx1.view.read (Elt F) f8) 1) (slab (M.by1.view.read (Elt F) f9) 1) (slab (M.bx2.view.read (Elt F) f10) 1) (slab (M.by2.view.read (Elt F) f11) 1) (slab (M.cl.view.read (Elt F) f12) 1))
  case h2 => exact (show _ = row2 (m 2) (plain (M.ix.view.read (Elt F) f13)) (slab (M.s.view.read (Elt F) f2) 2)
        (slab (M.bx1.view.read (Elt F) f8) 2) (slab (M.by1.view.read (Elt F) f9) 2) (slab (M.bx2.view.read (Elt F) f10) 2) (slab (M.by2.view.read (Elt F) f11) 2) (slab (M.cl.view.read (Elt F) f12) 2) from rfl).trans (row2_eq (m 2) (plain (M.ix.view.read (Elt F) f13)) (slab (M.s.view.read (Elt F) f2) 2)
        (slab (M.bx1.view.read (Elt F) f8) 2) (slab (M.by1.view.read (Elt F) f9) 2) (slab (M.bx2.view.read (Elt F) f10) 2) (slab (M.by2.view.read (Elt F) f11) 2) (slab (M.cl.view.read (Elt F) f12) 2))
  case h3 => exact (show _ = row3 (m 3) (plain (M.ix.view.read (Elt F) f13)) (slab (M.s.view.read (Elt F) f2) 3)
        (slab (M.bx1.view.read (Elt F) f8) 3) (slab (M.by1.view.read (Elt F) f9) 3) (slab (M.bx2.view.read (Elt F) f10) 3) (slab (M.by2.view.read (Elt F) f11) 3) (slab (M.cl.view.read (Elt F) f12) 3) from rfl).trans (row3_eq (m 3) (plain (M.ix.view.read (Elt F) f13)) (slab (M.s.view.read (Elt F) f2) 3)
        (slab (M.bx1.view.read (Elt F) f8) 3) (slab (M.by1.view.read (Elt F) f9) 3) (slab (M.bx2.view.read (Elt F) f10) 3) (slab (M.by2.view.read (Elt F) f11) 3) (slab (M.cl.view.read (Elt F) f12) 3))

end Cert.Proof.KI

end
-- ==== Proof.KI.Loop.lean ====
/-
  The kernel's loop, answered: each trip adds a row to some image, so after at most 1200 trips the loop ends, with the
  buffers held at the state the trips lead to.
-/
module

public import proofs.«01_k».proof.Proof.KI.Trip
public import Idealize.ShloMosaic.Rules.Step

@[expose] public section

set_option maxRecDepth 16384

noncomputable section

namespace Cert.Proof.KI

open Cert.KernelIdeal Cert.KernelIdeal.Gen
open Idealize.ShloMosaic Idealize.ShloMosaic.Rounds Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open sWPT (consume produce)

variable {F : FTy → Type} [FloatOps F]

local notation "𝕄" => MT nD τ sig Unit (Elt F) ℕ (URounds (GSem nD τ sig) Unit) ℕ

/-- A word below 300 by the signed comparison, known to be at most 300, is below 300. -/
theorem lt_of_slt (c : BitVec 32) (hc : c.toNat ≤ 300) (h : Scalar.cmpi .slt c 300#32 = 1#1) : c.toNat < 300 := by
  rcases Nat.lt_or_ge c.toNat 300 with h' | h'
  · exact h'
  · have e : c = 300#32 := BitVec.eq_of_toNat_eq (show c.toNat = 300 by omega)
    subst e
    exact absurd h (by decide)

/-- The first operand of a conjunction of bits that is set is set. -/
theorem andi_left (x y : BitVec 1) (h : Scalar.andi x y = 1#1) : x = 1#1 := by
  revert h
  have hx : x = 0#1 ∨ x = 1#1 := by
    have h := x.isLt
    rcases Nat.lt_or_ge x.toNat 1 with h' | h'
    · exact .inl (BitVec.eq_of_toNat_eq (show x.toNat = 0 by omega))
    · exact .inr (BitVec.eq_of_toNat_eq (show x.toNat = 1 by omega))
  rcases hx with rfl | rfl
  · intro h
    have h0 : (0#1 &&& y) = 1#1 := h
    rw [BitVec.zero_and] at h0
    exact absurd h0 (by decide)
  · exact fun _ => rfl

/-- A bit that is not set is clear. -/
theorem bit_cases (x : BitVec 1) : x = 0#1 ∨ x = 1#1 := by
  have h := x.isLt
  rcases Nat.lt_or_ge x.toNat 1 with h' | h'
  · exact .inl (BitVec.eq_of_toNat_eq (show x.toNat = 0 by omega))
  · exact .inr (BitVec.eq_of_toNat_eq (show x.toNat = 1 by omega))

/-- An image with a box to pick has fewer than 300 rows. -/
theorem alive_lt (c : BitVec 32) (x : F .f32) (hc : c.toNat ≤ 300) (h : alive c x = 1#1) : c.toNat < 300 :=
  lt_of_slt c hc (andi_left _ _ h)

namespace St

variable (g : Geo F) (st : St F)

/-- No count is above 300. -/
def Ok : Prop := ∀ b, (st.cnt b).toNat ≤ 300

/-- How many rows there is still room for. -/
def room : ℕ := (300 - (st.cnt 0).toNat) + (300 - (st.cnt 1).toNat) + (300 - (st.cnt 2).toNat) + (300 - (st.cnt 3).toNat)

/-- A trip adds one to the count of an image with a box to pick. -/
theorem step_cnt_alive (h : st.Ok) (b : Fin 4) (ha : st.al b = 1#1) :
    ((st.step g).cnt b).toNat = (st.cnt b).toNat + 1 ∧ (st.cnt b).toNat < 300 := by
  have hl : (st.cnt b).toNat < 300 := alive_lt _ _ (h b) ha
  refine ⟨?_, hl⟩
  show (Scalar.select (st.al b) (Scalar.addi (st.cnt b) 1#32) (st.cnt b)).toNat = _
  rw [ha]
  show (st.cnt b + 1#32).toNat = _
  rw [BitVec.toNat_add]
  show ((st.cnt b).toNat + 1) % 4294967296 = _
  omega

/-- A trip leaves the count of an image with no box to pick. -/
theorem step_cnt_dead (b : Fin 4) (ha : st.al b = 0#1) : (st.step g).cnt b = st.cnt b := by
  show Scalar.select (st.al b) (Scalar.addi (st.cnt b) 1#32) (st.cnt b) = _
  rw [ha]
  rfl

/-- A trip keeps every count at most 300. -/
theorem step_ok (h : st.Ok) : (st.step g).Ok := by
  intro b
  rcases bit_cases (st.al b) with ha | ha
  · rw [step_cnt_dead g st b ha]; exact h b
  · have := step_cnt_alive g st h b ha; omega

/-- The loop's test is set when some image has a box to pick. -/
theorem go_iff : st.go = 1#1 ↔ st.al 0 = 1#1 ∨ st.al 1 = 1#1 ∨ st.al 2 = 1#1 ∨ st.al 3 = 1#1 := by
  unfold go
  generalize st.al 0 = a0
  generalize st.al 1 = a1
  generalize st.al 2 = a2
  generalize st.al 3 = a3
  rcases bit_cases a0 with rfl | rfl <;> rcases bit_cases a1 with rfl | rfl <;> rcases bit_cases a2 with rfl | rfl <;>
    rcases bit_cases a3 with rfl | rfl <;> decide

/-- A trip that runs uses up some room. -/
theorem step_room (h : st.Ok) (hgo : st.go = 1#1) : (st.step g).room < st.room := by
  have key : ∀ b, (300 - ((st.step g).cnt b).toNat) ≤ 300 - (st.cnt b).toNat
      ∧ (st.al b = 1#1 → (300 - ((st.step g).cnt b).toNat) < 300 - (st.cnt b).toNat) := by
    intro b
    rcases bit_cases (st.al b) with ha | ha
    · rw [step_cnt_dead g st b ha]
      exact ⟨le_rfl, fun h => absurd (ha.symm.trans h) (by decide)⟩
    · have := step_cnt_alive g st h b ha
      exact ⟨by omega, fun _ => by omega⟩
  have k0 := key 0
  have k1 := key 1
  have k2 := key 2
  have k3 := key 3
  unfold room
  rcases (go_iff st).mp hgo with ha | ha | ha | ha
  · have := k0.2 ha; omega
  · have := k1.2 ha; omega
  · have := k2.2 ha; omega
  · have := k3.2 ha; omega

/-- With the test clear the loop stays where it is. -/
theorem run_stop (hgo : st.go ≠ 1#1) (k : ℕ) : run g k st = st := by
  cases k with
  | zero => rfl
  | succ k => exact if_neg hgo

/-- With the test set the loop makes a trip. -/
theorem run_go (hgo : st.go = 1#1) (k : ℕ) : run g (k + 1) st = run g k (st.step g) := if_pos hgo

/-- The values the loop carries. -/
def carried : BitVec 32 × BitVec 32 × BitVec 32 × BitVec 32 × F .f32 × F .f32 × F .f32 × F .f32 :=
  (st.cnt 0, st.cnt 1, st.cnt 2, st.cnt 3, st.m 0, st.m 1, st.m 2, st.m 3)

end St

/-- A row is stored within the output when the count of its image is below 300. -/
theorem row_inb (b : Fin 4) (c : BitVec 32) (hc : c.toNat < 300) :
    ∀ a, (![b.val, c.toNat, 0] : Fin 3 → ℕ) a + S1x1x6.size a ≤ S4x300x6.size a
  | ⟨0, _⟩ => Nat.succ_le_of_lt b.isLt
  | ⟨1, _⟩ => Nat.succ_le_of_lt hc
  | ⟨2, _⟩ => Nat.le_refl 6

/-- The row written for the first image lies in the table. -/
theorem chk1 (c : BitVec 32) (hc : c.toNat ≤ 300) (v : BitVec 1) : k0_chk1 c v := fun h =>
  row_inb 0 c (lt_of_slt c hc (andi_left _ _ ((word_eq _).symm.trans h)))

/-- The row written for the second image lies in the table. -/
theorem chk2 (c : BitVec 32) (hc : c.toNat ≤ 300) (v : BitVec 1) : k0_chk2 c v := fun h =>
  row_inb 1 c (lt_of_slt c hc (andi_left _ _ ((word_eq _).symm.trans h)))

/-- The row written for the third image lies in the table. -/
theorem chk3 (c : BitVec 32) (hc : c.toNat ≤ 300) (v : BitVec 1) : k0_chk3 c v := fun h =>
  row_inb 2 c (lt_of_slt c hc (andi_left _ _ ((word_eq _).symm.trans h)))

/-- The row written for the fourth image lies in the table. -/
theorem chk4 (c : BitVec 32) (hc : c.toNat ≤ 300) (v : BitVec 1) : k0_chk4 c v := fun h =>
  row_inb 3 c (lt_of_slt c hc (andi_left _ _ ((word_eq _).symm.trans h)))

/-- What the loop does from a state, with room for at most `k` rows: it hands the buffers back at the state the trips lead
    to, and returns what that state carries. -/
def loopSpec (c : Dev nD) (M : Mems) (g : Geo F) (k : ℕ) (st : St F) :
    sWPT 𝕄 (BitVec 32 × BitVec 32 × BitVec 32 × BitVec 32 × F .f32 × F .f32 × F .f32 × F .f32) :=
  consume (held c M g st) >>= fun _ => produce (held c M g (St.run g k st)) >>= fun _ => pure (St.carried (St.run g k st))

/-- What the loop is proved to do, unfolded. -/
theorem loopSpec_apply (c : Dev nD) (M : Mems) (g : Geo F) (k : ℕ) (st : St F)
    (K : BitVec 32 × BitVec 32 × BitVec 32 × BitVec 32 × F .f32 × F .f32 × F .f32 × F .f32 → sProp 𝕄) :
    loopSpec c M g k st K = iprop(held c M g st ∗ (held c M g (St.run g k st) -∗ K (St.carried (St.run g k st)))) := rfl

/-- With the test clear the body returns what it carries. -/
theorem body_stop (c : Dev nD) (u : Option ℕ) (M : Mems) (st : St F) (hgo : st.go ≠ 1#1) (E : Set ℕ)
    (K : (BitVec 32 × BitVec 32 × BitVec 32 × BitVec 32 × F .f32 × F .f32 × F .f32 × F .f32) → sProp 𝕄) :
    K st.carried ⊢ wp frame (wpE (defs₀ (F := F)) Variants.nat c u) E (body M st) K := by
  simp only [body, cc0_while1_eq_skeleton]; unfold cc0_while1_skel
  unfold St.go St.al alive at hgo
  iintro Hk
  simp only [hgo, ↓reduceIte, Prog.pure_eq_ret]
  rw [wp_ret]; imodintro
  unfold St.carried
  iexact Hk

/-- The loop's body meets its specification, entered with room for at most `k` rows. -/
theorem loop_le (c : Dev nD) (M : Mems) (g : Geo F) (E : Set ℕ) : ∀ (k : ℕ) (st : St F), st.Ok → st.room ≤ k →
    loopSpec c M g k st ≤ wp frame (wpE (defs₀ (F := F)) Variants.nat c (some k)) E (defs₀ (F := F) .tc 1 (arg M st)) := by
  intro k
  induction k with
  | zero =>
    intro st hok hr K
    have hgo : st.go ≠ 1#1 := fun h => absurd (St.step_room g st hok h) (by omega)
    rw [loopSpec_apply, St.run_stop g st hgo]
    show _ ⊢ wp frame (wpE (defs₀ (F := F)) Variants.nat c (some 0)) E (body M st) K
    iintro ⟨H, Hk⟩
    iapply (body_stop c (some 0) M st hgo E K)
    iapply Hk
    iexact H
  | succ k ih =>
    intro st hok hr K
    rw [loopSpec_apply]
    show _ ⊢ wp frame (wpE (defs₀ (F := F)) Variants.nat c (some (k + 1))) E (body M st) K
    by_cases hgo : st.go = 1#1
    · rw [St.run_go g st hgo]
      iintro ⟨H, Hk⟩
      iapply (trip c (some (k + 1)) M g st (chk1 _ (hok 0)) (chk2 _ (hok 1)) (chk3 _ (hok 2)) (chk4 _ (hok 3)) hgo E K)
      isplitl [H]
      · iexact H
      iintro H
      iapply (wp_call_spec Variants.nat (c : Thread nD τ) (some (k + 1)) E (loopSpec c M g k (st.step g)) k
        (fun u hu => by cases hu; exact Nat.lt_succ_self k)
        (ih (st.step g) (St.step_ok g st hok) (by have := St.step_room g st hok hgo; omega)))
      rw [loopSpec_apply]
      isplitl [H]
      · iexact H
      iintro H
      rw [wp_ret]; imodintro
      iapply Hk
      iexact H
    · rw [St.run_stop g st hgo]
      iintro ⟨H, Hk⟩
      iapply (body_stop c (some (k + 1)) M st hgo E K)
      iapply Hk
      iexact H

end Cert.Proof.KI

end
-- ==== Proof.KI.Init.lean ====
/-
  What the kernel's buffers hold when its loop starts, as a function of the block of detections it is given.
-/
module

public import proofs.«01_k».proof.Proof.KI.Step

@[expose] public section

noncomputable section

namespace Cert.Proof.KI

open Cert.KernelIdeal Cert.KernelIdeal.Gen
open Idealize.ShloMosaic Idealize.ShloMosaic.ValueIdx

variable {F : FTy → Type} [FloatOps F]

/-- An attribute of the input lies inside it. -/
theorem attr_inb (k : Fin 85) : ∀ a, (![0, k.val, 0, 0] : Fin 4 → ℕ) a + S4x1x40x128.size a ≤ S4x85x40x128.size a
  | ⟨0, _⟩ => Nat.le_refl 4
  | ⟨1, _⟩ => Nat.succ_le_of_lt k.isLt
  | ⟨2, _⟩ => Nat.le_refl 40
  | ⟨3, _⟩ => Nat.le_refl 128

/-- Attribute `k` of every detection, read as a load reads it. -/
def attr (X : Vec F S4x85x40x128 .f32) (k : Fin 85) : Vec F S4x1x40x128 .f32 :=
  fun x => X ((Rect.unit (s := S4x85x40x128) ![0, k.val, 0, 0] S4x1x40x128.size (attr_inb k)).toLoadRect.idx x)

/-- Attribute `k` of every detection. -/
def col (X : Vec F S4x85x40x128 .f32) (k : Fin 85) : FVec F S4x40x128 .f32 :=
  shapeCast S4x40x128 (attr X k) shapeCasts_S4x1x40x128_S4x40x128

namespace Init

variable (X : Vec F S4x85x40x128 .f32)

/-- Whether class `n + 1` beats the highest of the classes up to `n`. -/
def beats (best : FVec F S4x40x128 .f32) (n : ℕ) : IVec S4x40x128 1 := cmpf .ogt (col X (Fin.ofNat 85 (n + 6))) best

/-- The highest class confidence among the classes up to `n`. -/
def best : ℕ → FVec F S4x40x128 .f32
  | 0 => col X 5
  | n + 1 => select (beats X (best n) n) (col X (Fin.ofNat 85 (n + 6))) (best n)

/-- The first class of highest confidence among the classes up to `n`. -/
def cls : ℕ → IVec S4x40x128 32
  | 0 => broadcast S4x40x128 0#32
  | n + 1 => select (beats X (best X n) n) (broadcast S4x40x128 (BitVec.ofNat 32 (n + 1))) (cls n)

/-- The class, as a float. -/
def clsF : FVec F S4x40x128 .f32 := sitofp .f32 (cls X 79)

/-- Half the width and half the height. -/
def half (k : Fin 85) : FVec F S4x40x128 .f32 := divf (col X k) (broadcast S4x40x128 (Scalar.ofBits .f32 0x40000000#32))

/-- The shift of a box by its class. -/
def shift : FVec F S4x40x128 .f32 := mulf (clsF X) (broadcast S4x40x128 (Scalar.ofBits .f32 0x45F00000#32))

/-- The corners of the boxes. -/
def x1 : FVec F S4x40x128 .f32 := subf (col X 0) (half X 2)
/-- The upper edge of the boxes. -/
def y1 : FVec F S4x40x128 .f32 := subf (col X 1) (half X 3)
/-- The right edge of the boxes. -/
def x2 : FVec F S4x40x128 .f32 := addf (col X 0) (half X 2)
/-- The lower edge of the boxes. -/
def y2 : FVec F S4x40x128 .f32 := addf (col X 1) (half X 3)

/-- The corners of the boxes shifted by class, and their area. -/
def ox1 : FVec F S4x40x128 .f32 := addf (x1 X) (shift X)
/-- The upper edge, shifted for the class. -/
def oy1 : FVec F S4x40x128 .f32 := addf (y1 X) (shift X)
/-- The right edge, shifted for the class. -/
def ox2 : FVec F S4x40x128 .f32 := addf (x2 X) (shift X)
/-- The lower edge, shifted for the class. -/
def oy2 : FVec F S4x40x128 .f32 := addf (y2 X) (shift X)
/-- The area of the shifted boxes. -/
def area : FVec F S4x40x128 .f32 := mulf (subf (ox2 X) (ox1 X)) (subf (oy2 X) (oy1 X))

/-- The scores: objectness times class confidence, minus infinity where the objectness is not above the threshold. -/
def score : FVec F S4x40x128 .f32 :=
  select (cmpf .ogt (col X 4) (broadcast S4x40x128 (Scalar.ofBits .f32 0x3E800000#32))) (mulf (col X 4) (best X 79))
    (broadcast S4x40x128 (Scalar.ofBits .f32 0xFF800000#32))

/-- A whole array stored over the buffer it is stored into. -/
def same (v : FVec F S4x40x128 .f32) : FVec F S4x40x128 .f32 := shapeCast S4x40x128 v shapeCasts_S4x40x128_S4x40x128

/-- The geometry the loop reads. -/
def geo : Geo F where
  ix := shapeCast S40x128 k0_pay286 shapeCasts_S40x128_S40x128
  ox1 := same (ox1 X)
  oy1 := same (oy1 X)
  ox2 := same (ox2 X)
  oy2 := same (oy2 X)
  ar := same (area X)
  bx1 := same (x1 X)
  by1 := same (y1 X)
  bx2 := same (x2 X)
  by2 := same (y2 X)
  cl := same (clsF X)

/-- The state the loop starts from. -/
def st : St F where
  cnt _ := 0#32
  m b := k0_pay1 (slab (same (score X)) b)
  s := same (score X)
  o := broadcast S4x300x6 (Scalar.ofBits .f32 0x00000000#32)

/-- The highest scores are computed alike for the four images. -/
theorem top0_eq (v : Vec F S1x40x128 .f32) : k0_pay289 v = k0_pay1 v := rfl

/-- The second image takes its maximum as the first does. -/
theorem top1_eq (v : Vec F S1x40x128 .f32) : k0_pay290 v = k0_pay1 v := rfl

/-- The third image takes its maximum as the first does. -/
theorem top2_eq (v : Vec F S1x40x128 .f32) : k0_pay291 v = k0_pay1 v := rfl

/-- The maximum an image starts from is that of its scores. -/
theorem st_m (b : Fin 4) : (st X).m b = k0_pay1 (slab (same (score X)) b) := by simp only [st]

end Init

end Cert.Proof.KI

end
-- ==== Proof.KI.Start.lean ====
/-
  The kernel up to its loop.
-/
module

public import proofs.«01_k».proof.Proof.KI.Loop
public import proofs.«01_k».proof.Proof.KI.Init

@[expose] public section

set_option maxRecDepth 16384

noncomputable section

namespace Cert.Proof.KI

open Cert.KernelIdeal Cert.KernelIdeal.Gen
open Idealize.ShloMosaic Idealize.ShloMosaic.Rounds Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open sWPT (consume produce)

variable {F : FTy → Type} [FloatOps F]

local notation "𝕄" => MT nD τ sig Unit (Elt F) ℕ (URounds (GSem nD τ sig) Unit) ℕ

/-- Some buffer owned at anything. -/
abbrev anyAt (c : Dev nD) {s : Shape} {e : EltTy} (M : Memref sig .tc .vmem s e) : sProp 𝕄 :=
  iprop(∃ f, M.view.loc (c : Thread nD τ) ↦[M.view.set]{fullShare} f)

/-- A store over the whole of a buffer, read back. -/
theorem read_whole {s : Shape} {e : EltTy} {κ : Kind} {sp : Space} (v : View sig κ sp s e) (f : v.ty.Contents (Elt F)) (off : Fin s.rank → ℕ)
    (inb : ∀ a, off a + s.size a ≤ s.size a) (w w' : Vec F s e) (hw : w = w') :
    v.read (Elt F) (v.writes (Elt F) f [⟨Rect.unit off s.size inb, w⟩]) = w' := by
  subst hw
  funext y
  have h0 : ∀ a, off a = 0 := fun a => by have := inb a; omega
  refine View.read_writes_cons_unit_of_mem v f inb w [] y y rfl fun a => ?_
  rw [h0 a, Nat.zero_add]

/-- A load of a slab out of a whole array just stored. -/
theorem load_slab {κ : Kind} {sp : Space} (v : View sig κ sp S4x40x128 .f32) (w : Vec F S4x40x128 .f32) (b : Fin 4)
    (inb : ∀ a, (![0, 0, 0] : Fin 3 → ℕ) a + S4x40x128.size a ≤ S4x40x128.size a) :
    v.readCov [(⟨Rect.unit ![0, 0, 0] S4x40x128.size inb, w⟩ : View.Piece (Elt F) S4x40x128 .f32)]
      (Rect.unit (s := S4x40x128) ![b.val, 0, 0] S1x40x128.size (slab_inb b)).toLoadRect = slab w b :=
  funext fun x => congrFun (read_whole v _ ![0, 0, 0] inb w w rfl) _

/-- The starting state counts no written row. -/
theorem st_ok (X : Vec F S4x85x40x128 .f32) : (Init.st X).Ok := fun _ => Nat.zero_le _
/-- The loop has at most 1200 rows to write from there. -/
theorem st_room (X : Vec F S4x85x40x128 .f32) : (Init.st X).room ≤ 1200 := Nat.le_refl 1200

attribute [local irreducible] k0_pay289 k0_pay290 k0_pay291 k0_pay1 in
set_option maxHeartbeats 4000000 in
/-- The kernel's body, run: from the input held and every other buffer at anything, it ends with the buffers held at the state
    its loop stops in. -/
theorem start (c : Dev nD) (M : Mems) (X : Memref sig .tc .vmem S4x85x40x128 .f32) (hX : X.IsWhole)
    (fX : X.view.ty.Contents (Elt F)) (K : PUnit → sProp 𝕄) :
    iprop((X.view.loc (c : Thread nD τ) ↦[X.view.set]{fullShare} fX)
        ∗ anyAt c M.ix ∗ anyAt c M.s ∗ anyAt c M.ox1 ∗ anyAt c M.oy1 ∗ anyAt c M.ox2 ∗ anyAt c M.oy2 ∗ anyAt c M.ar
        ∗ anyAt c M.bx1 ∗ anyAt c M.by1 ∗ anyAt c M.bx2 ∗ anyAt c M.by2 ∗ anyAt c M.cl ∗ anyAt c M.o
        ∗ ((X.view.loc (c : Thread nD τ) ↦[X.view.set]{fullShare} fX)
          ∗ held c M (Init.geo (X.view.read (Elt F) fX)) (St.run (Init.geo (X.view.read (Elt F) fX)) 1200 (Init.st (X.view.read (Elt F) fX))) -∗ K ⟨⟩))
      ⊢ wp frame (wpE (defs₀ (F := F)) Variants.nat c none) Set.univ
        (cc0__nms_body X hX M.o M.ho M.s M.hs M.ox1 M.hox1 M.oy1 M.hoy1 M.ox2 M.hox2 M.oy2 M.hoy2 M.ar M.har M.bx1 M.hbx1
          M.by1 M.hby1 M.bx2 M.hbx2 M.by2 M.hby2 M.cl M.hcl M.ix M.hix) K := by
  simp only [cc0__nms_body_eq_skeleton]; unfold cc0__nms_body_skel anyAt
  iintro ⟨HX, ⟨%f13, H13⟩, ⟨%f2, H2⟩, ⟨%f3, H3⟩, ⟨%f4, H4⟩, ⟨%f5, H5⟩, ⟨%f6, H6⟩, ⟨%f7, H7⟩,
    ⟨%f8, H8⟩, ⟨%f9, H9⟩, ⟨%f10, H10⟩, ⟨%f11, H11⟩, ⟨%f12, H12⟩, ⟨%f1, H1⟩, Hk⟩
  sl_exec_parts
  have hw : start.sl.H2_1 X fX = [⟨Rect.unit ![0, 0, 0] S4x40x128.size inb_S4x40x128_S4x40x128_0_0_0,
      Init.same (Init.score (X.view.read (Elt F) fX))⟩] := rfl
  have hv0 : M.s.view.readCov (start.sl.H2_1 X fX) (Rect.unit (s := S4x40x128) ![0, 0, 0] S1x40x128.size inb_S4x40x128_S1x40x128_0_0_0).toLoadRect
      = slab (Init.same (Init.score (X.view.read (Elt F) fX))) 0 := by
    rw [hw]; exact load_slab M.s.view _ 0 _
  have hm0 : start.sl.r_51 M X fX = (Init.st (X.view.read (Elt F) fX)).m 0 :=
    (show _ = k0_pay289 (M.s.view.readCov (start.sl.H2_1 X fX) (Rect.unit (s := S4x40x128) ![0, 0, 0] S1x40x128.size inb_S4x40x128_S1x40x128_0_0_0).toLoadRect)
      from rfl).trans ((Init.top0_eq _).trans ((congrArg k0_pay1 hv0).trans (Init.st_m _ 0).symm))
  have hv1 : M.s.view.readCov (start.sl.H2_1 X fX) (Rect.unit (s := S4x40x128) ![1, 0, 0] S1x40x128.size inb_S4x40x128_S1x40x128_1_0_0).toLoadRect
      = slab (Init.same (Init.score (X.view.read (Elt F) fX))) 1 := by
    rw [hw]; exact load_slab M.s.view _ 1 _
  have hm1 : start.sl.r_52 M X fX = (Init.st (X.view.read (Elt F) fX)).m 1 :=
    (show _ = k0_pay290 (M.s.view.readCov (start.sl.H2_1 X fX) (Rect.unit (s := S4x40x128) ![1, 0, 0] S1x40x128.size inb_S4x40x128_S1x40x128_1_0_0).toLoadRect)
      from rfl).trans ((Init.top1_eq _).trans ((congrArg k0_pay1 hv1).trans (Init.st_m _ 1).symm))
  have hv2 : M.s.view.readCov (start.sl.H2_1 X fX) (Rect.unit (s := S4x40x128) ![2, 0, 0] S1x40x128.size inb_S4x40x128_S1x40x128_2_0_0).toLoadRect
      = slab (Init.same (Init.score (X.view.read (Elt F) fX))) 2 := by
    rw [hw]; exact load_slab M.s.view _ 2 _
  have hm2 : start.sl.r_53 M X fX = (Init.st (X.view.read (Elt F) fX)).m 2 :=
    (show _ = k0_pay291 (M.s.view.readCov (start.sl.H2_1 X fX) (Rect.unit (s := S4x40x128) ![2, 0, 0] S1x40x128.size inb_S4x40x128_S1x40x128_2_0_0).toLoadRect)
      from rfl).trans ((Init.top2_eq _).trans ((congrArg k0_pay1 hv2).trans (Init.st_m _ 2).symm))
  have hv3 : M.s.view.readCov (start.sl.H2_1 X fX) (Rect.unit (s := S4x40x128) ![3, 0, 0] S1x40x128.size inb_S4x40x128_S1x40x128_3_0_0).toLoadRect
      = slab (Init.same (Init.score (X.view.read (Elt F) fX))) 3 := by
    rw [hw]; exact load_slab M.s.view _ 3 _
  have hm3 : k0_pay1 (start.sl.v571 M X fX) = (Init.st (X.view.read (Elt F) fX)).m 3 :=
    (show _ = k0_pay1 (M.s.view.readCov (start.sl.H2_1 X fX) (Rect.unit (s := S4x40x128) ![3, 0, 0] S1x40x128.size inb_S4x40x128_S1x40x128_3_0_0).toLoadRect)
      from rfl).trans (((congrArg k0_pay1 hv3).trans (Init.st_m _ 3).symm))
  rw [hm0, hm1, hm2, hm3]
  iapply (wp_call_spec Variants.nat (c : Thread nD τ) none Set.univ
    (loopSpec c M (Init.geo (X.view.read (Elt F) fX)) 1200 (Init.st (X.view.read (Elt F) fX))) 1200
    (fun u hu => nomatch hu) (loop_le c M (Init.geo (X.view.read (Elt F) fX)) Set.univ 1200 (Init.st (X.view.read (Elt F) fX))
      (st_ok _) (st_room _)))
  rw [loopSpec_apply]
  isplitr [HX Hk]
  · unfold held owns
    isplitl [H13]
    · iexists _; isplitr; swap; · iexact H13
      ipureintro; exact read_whole M.ix.view _ _ _ _ _ rfl
    isplitl [H2]
    · iexists _; isplitr; swap; · iexact H2
      ipureintro; exact read_whole M.s.view _ _ _ _ _ rfl
    isplitl [H3]
    · iexists _; isplitr; swap; · iexact H3
      ipureintro; exact read_whole M.ox1.view _ _ _ _ _ rfl
    isplitl [H4]
    · iexists _; isplitr; swap; · iexact H4
      ipureintro; exact read_whole M.oy1.view _ _ _ _ _ rfl
    isplitl [H5]
    · iexists _; isplitr; swap; · iexact H5
      ipureintro; exact read_whole M.ox2.view _ _ _ _ _ rfl
    isplitl [H6]
    · iexists _; isplitr; swap; · iexact H6
      ipureintro; exact read_whole M.oy2.view _ _ _ _ _ rfl
    isplitl [H7]
    · iexists _; isplitr; swap; · iexact H7
      ipureintro; exact read_whole M.ar.view _ _ _ _ _ rfl
    isplitl [H8]
    · iexists _; isplitr; swap; · iexact H8
      ipureintro; exact read_whole M.bx1.view _ _ _ _ _ rfl
    isplitl [H9]
    · iexists _; isplitr; swap; · iexact H9
      ipureintro; exact read_whole M.by1.view _ _ _ _ _ rfl
    isplitl [H10]
    · iexists _; isplitr; swap; · iexact H10
      ipureintro; exact read_whole M.bx2.view _ _ _ _ _ rfl
    isplitl [H11]
    · iexists _; isplitr; swap; · iexact H11
      ipureintro; exact read_whole M.by2.view _ _ _ _ _ rfl
    isplitl [H12]
    · iexists _; isplitr; swap; · iexact H12
      ipureintro; exact read_whole M.cl.view _ _ _ _ _ rfl
    iexists _; isplitr; swap; · iexact H1
    ipureintro; exact read_whole M.o.view _ _ _ _ _ rfl
  iintro H
  rw [Prog.pure_eq_ret, wp_ret]; imodintro
  iapply Hk
  isplitl [HX]
  · iexact HX
  iexact H

end Cert.Proof.KI

end
-- ==== Proof.KI.Run.lean ====
/-
  The launch: the kernel's body at its one grid point, the program run to its end, and what its result array then holds.
-/
module

public import proofs.«01_k».proof.Proof.KI.Start
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.ValueKit.Geometry

@[expose] public section

set_option maxRecDepth 16384

noncomputable section

namespace Cert.Proof.KI

open Cert.KernelIdeal Cert.KernelIdeal.Gen
open Idealize.ShloMosaic Idealize.ShloMosaic.Rounds
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (URounds (GSem nD τ sig) Unit) ℕ

variable (m : (ℓ : Loc nD τ sig) → Buf (Elt F) ℓ) (ρ : Dev nD → PrngReg)

/-- The host operations before the launch, in order. -/
def opss : List (List (HloOp τ sig (Elt F))) := [hostOps0, hostOps0_1, hostOps0_2]

/-- The contents of core `c`'s buffers when the launch starts. -/
def V (c : Dev nD) (b : Ref sig .tc) : Buf (Elt F) ((c : Thread nD τ).loc b) :=
  StableHlo.after (opss (F := F)).flatten (fun b => m (c, b)) b

/-- The kernel's input when the launch starts. -/
def inp (c : Dev nD) : Vec F S4x85x40x128 .f32 := V m c main_v2

/-- What the kernel leaves in its output when its input is `X`. -/
def out (X : Vec F S4x85x40x128 .f32) : Vec F S4x300x6 .f32 := (St.run (Init.geo X) 1200 (Init.st X)).o

/-- The scratch buffers with an output memref, as the loop's operands. -/
def mems (o : Memref sig .tc .vmem S4x300x6 .f32) (ho : o.IsWhole) : Mems where
  ix := Memref.whole cc0_scratch11
  hix := Memref.isWhole_whole _
  s := Memref.whole cc0_scratch0
  hs := Memref.isWhole_whole _
  ox1 := Memref.whole cc0_scratch1
  hox1 := Memref.isWhole_whole _
  oy1 := Memref.whole cc0_scratch2
  hoy1 := Memref.isWhole_whole _
  ox2 := Memref.whole cc0_scratch3
  hox2 := Memref.isWhole_whole _
  oy2 := Memref.whole cc0_scratch4
  hoy2 := Memref.isWhole_whole _
  ar := Memref.whole cc0_scratch5
  har := Memref.isWhole_whole _
  bx1 := Memref.whole cc0_scratch6
  hbx1 := Memref.isWhole_whole _
  by1 := Memref.whole cc0_scratch7
  hby1 := Memref.isWhole_whole _
  bx2 := Memref.whole cc0_scratch8
  hbx2 := Memref.isWhole_whole _
  by2 := Memref.whole cc0_scratch9
  hby2 := Memref.isWhole_whole _
  cl := Memref.whole cc0_scratch10
  hcl := Memref.isWhole_whole _
  o := o
  ho := ho

/-- A buffer owned whole at some contents. -/
abbrev anyOwned (c : Dev nD) {s : Shape} {e : EltTy} (M : Memref sig .tc .vmem s e) : sProp 𝕄 :=
  iprop(∃ d, owns (c : Thread nD τ) M fullShare d)

/-- Owned at some contents, forgetting how they read. -/
theorem anyAt_of_owned (c : Dev nD) {s : Shape} {e : EltTy} (M : Memref sig .tc .vmem s e) :
    (anyOwned c M : sProp 𝕄) ⊢ anyAt c M := by
  unfold anyOwned owns
  iintro ⟨%d, %f, -, H⟩
  iexists f
  iexact H

/-- The invariant of the launch: the scratch buffers at anything and the generator register at anything. -/
theorem phi_eq (c : Dev nD) :
    (Pipeline.ΦA (Val := Elt F) (U := URounds (GSem nD τ sig) Unit) spec0 c : sProp 𝕄) = iprop(iprop(
      anyOwned c (Memref.whole cc0_scratch0) ∗ anyOwned c (Memref.whole cc0_scratch1) ∗ anyOwned c (Memref.whole cc0_scratch2) ∗ anyOwned c (Memref.whole cc0_scratch3) ∗ anyOwned c (Memref.whole cc0_scratch4) ∗ anyOwned c (Memref.whole cc0_scratch5) ∗ anyOwned c (Memref.whole cc0_scratch6) ∗ anyOwned c (Memref.whole cc0_scratch7) ∗ anyOwned c (Memref.whole cc0_scratch8) ∗ anyOwned c (Memref.whole cc0_scratch9) ∗ anyOwned c (Memref.whole cc0_scratch10) ∗ anyOwned c (Memref.whole cc0_scratch11))
      ∗ ∃ r, prngReg c r) := by
  unfold Pipeline.ΦA
  rw [scopedRest0_eq]
  simp only [anyOwned, owns_whole]

/-- The proof data: the arrays as the launch finds them, the input left as it is, the output left at the kernel's result. -/
def dats (_ : Fin 1) (c : Dev nD) : Dat τ (Elt F) Unit ℕ (URounds (GSem nD τ sig) Unit) ℕ (cfg0 (F := F)) c where
  A w := V m c (Pipeline.arrRef spec0 w)
  after w t := match w with
    | ⟨0, _⟩ => inp m c
    | ⟨1, _⟩ => out (inp m c)
  Φ _ := Pipeline.ΦA spec0 c
  q _ := fullShare
  owed _ := 0

/-- The arrays at the launch. -/
theorem A_eq (c : Dev nD) (w : Fin (cfg0 (F := F)).W) : (dats m 0 c).A w = V m c (Pipeline.arrRef spec0 w) := by dsimp only [dats]

/-- The input's staging buffer holds the whole input when the body starts. -/
theorem before_in (c : Dev nD) (t : Fin (cfg0 (F := F)).N) (d) : (dats m 0 c).before (0 : Fin 2) t d = inp m c := by
  rw [fin_N0 t]
  rw [(dats m 0 c).before_fetched (0 : Fin 2) t0_0 (fetch0_0 t0_0)]
  unfold Dat.fetched Pipeline.Window.fill
  funext j
  rw [dif_pos ((Pipeline.Window.moved_iff _ _ j).mpr fun a => (j a).isLt), Dat.blockOf_apply]
  show V m c main_v2 _ = V m c main_v2 j
  refine congrArg (V m c main_v2) (funext fun a => Fin.ext ?_)
  have h : ∀ a, win0_0.index t0_0 a = 0 := by decide +kernel
  blk_simp
  rw [h a, Nat.zero_mul, Nat.zero_add]

/-- The output array after the launch. -/
theorem arrAt_out (c : Dev nD) : (dats m 0 c).arrAt (1 : Fin 2) (cfg0 (F := F)).N = out (inp m c) :=
  (dats m 0 c).arrAt_eq_of_after_last (1 : Fin 2) t0_0 (show win0_1.WholeAt t0_0 by decide +kernel) (out (inp m c)) fun _ => rfl

/-- What the body is handed at the point. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before (0 : Fin 2) t d))
    ∗ (∃ d, owns (c : Thread nD τ) (st0_1 t) fullShare ((dats m 0 c).before (1 : Fin 2) t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare (inp m c)
    ∗ owns (c : Thread nD τ) (st0_1 t) fullShare (out (inp m c)))

/-- The body at the point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  simp only [before_in]
  iintro ⟨⟨⟨S0, S1, S2, S3, S4, S5, S6, S7, S8, S9, S10, S11⟩, Hg⟩, HO, ⟨%d0, H0⟩, ⟨%d1, H1⟩⟩
  unfold owns
  icases H0 with ⟨%fX, %eX, HX⟩
  icases H1 with ⟨%fO, -, HOut⟩
  iapply (start c (mems (st0_1 t) (hstage0_1 0)) (st0_0 t) (hstage0_0 0) fX _)
  isplitl [HX]; · iexact HX
  isplitl [S11]; · iapply (anyAt_of_owned c _); iexact S11
  isplitl [S0]; · iapply (anyAt_of_owned c _); iexact S0
  isplitl [S1]; · iapply (anyAt_of_owned c _); iexact S1
  isplitl [S2]; · iapply (anyAt_of_owned c _); iexact S2
  isplitl [S3]; · iapply (anyAt_of_owned c _); iexact S3
  isplitl [S4]; · iapply (anyAt_of_owned c _); iexact S4
  isplitl [S5]; · iapply (anyAt_of_owned c _); iexact S5
  isplitl [S6]; · iapply (anyAt_of_owned c _); iexact S6
  isplitl [S7]; · iapply (anyAt_of_owned c _); iexact S7
  isplitl [S8]; · iapply (anyAt_of_owned c _); iexact S8
  isplitl [S9]; · iapply (anyAt_of_owned c _); iexact S9
  isplitl [S10]; · iapply (anyAt_of_owned c _); iexact S10
  isplitl [HOut]; · iexists fO; iexact HOut
  unfold held
  iintro ⟨HX, S11, S0, S1, S2, S3, S4, S5, S6, S7, S8, S9, S10, HOut⟩
  have e := congrArg out eX
  isplitl [S0 S1 S2 S3 S4 S5 S6 S7 S8 S9 S10 S11 Hg]
  · isplitl [S0 S1 S2 S3 S4 S5 S6 S7 S8 S9 S10 S11]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      isplitl [S9]; · iexists _; iexact S9
      isplitl [S10]; · iexists _; iexact S10
      iexists _; iexact S11
    iexact Hg
  isplitl [HO]; · iexact HO
  isplitl [HX]
  · iexists fX; isplitr; · ipureintro; exact eX
    iexact HX
  unfold owns
  icases HOut with ⟨%f, %ef, HOut⟩
  iexists f; isplitr; · ipureintro; exact ef.trans e
  iexact HOut

/-- The body table's row at the point is the body. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The library's body obligation. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-- The host operations and the launch, as the launch theorem takes them. -/
theorem hmain :
    Pipeline.HMain (Ix := Unit) (Name := ℕ) (U := URounds (GSem nD τ sig) Unit) (Lvl := ℕ) cfgs 0 defs₀ Variants.nat m (main (F := F)) (V m) :=
  Pipeline.hmain_prefixes cfgs 0 defs₀ Variants.nat m main opss ⟨hostOps0_sub, hostOps0_1_sub, hostOps0_2_sub⟩
    ⟨rfl, ⟨rfl, rfl⟩, ⟨rfl, rfl⟩⟩ fun c => main_chain c

set_option backward.isDefEq.respectTransparency.types false in
/-- The program run from any memory with zero counters. -/
theorem run_main :
    θ_run defs (onTc (τ := τ) (main (F := F))) (s₀ m ρ)
      (fun r => Pipeline.FramePost cfgs (dats m) (0 : Fin 1) (V m) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m) (hA := A_eq m) (hΦ := fun _ _ => rfl)
    (hQ' := fun _ h => h)

/-- No host operation writes the argument. -/
theorem V_arg0 (c : Dev nD) : V m c main_arg0 = m ((c : Thread nD τ).loc main_arg0) := by
  unfold V opss
  simp only [List.flatten_cons, List.flatten_nil, List.append_nil, List.cons_append, List.nil_append]
  after_results

variable {m ρ}

/-- After the run the argument holds what it held. -/
theorem final_arg0 {r : PUnit × MemSt nD τ sig (Elt F)} (h : Pipeline.FramePost cfgs (dats m) (0 : Fin 1) (V m) r) (c : Dev nD) :
    r.2.mem ((c : Thread nD τ).loc main_arg0) = m ((c : Thread nD τ).loc main_arg0) :=
  ((h c).2 main_arg0 (Pipeline.mem_restRefs_of main_arg0 (by decide) (show ∀ w, (spec0 w).arr.view.ref ≠ main_arg0 by decide))).trans (V_arg0 m c)

/-- After the run the result holds the kernel's output on its input. -/
theorem final_v3 {r : PUnit × MemSt nD τ sig (Elt F)} (h : Pipeline.FramePost cfgs (dats m) (0 : Fin 1) (V m) r) (c : Dev nD) :
    r.2.mem ((c : Thread nD τ).loc main_v3) = out (inp m c) :=
  ((h c).1 (1 : Fin 2)).trans (arrAt_out m c)

end Cert.Proof.KI

end
-- ==== Proof.RI.Frame.lean ====
/-
  The reference leaves its argument as it was.
-/
module

public import proofs.«01_k».proof.Proof.Gen.ReferenceIdeal.Run
public import Idealize.ShloMosaic.Lib.Quiescent

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F] (m : (ℓ : Loc nD τ sig) → Buf (Elt F) ℓ) (ρ : Dev nD → PrngReg)

/-- The argument's buffer. -/
abbrev A : DevRef τ sig := Proc.devRef .tc main_arg0

/-- No operation before the loop writes the argument. -/
theorem pre_arg0 (V : Valuation τ sig (Elt F)) : afterL preI V A = V A := by
  simp only [preI, afterL_cons, afterL_nil]
  rw [after_of_writes_sub _ _ hostOps0_8_writes (by decide +kernel), after_of_writes_sub _ _ hostOps0_7_writes (by decide +kernel),
    after_of_writes_sub _ _ hostOps0_6_writes (by decide +kernel), after_of_writes_sub _ _ hostOps0_5_writes (by decide +kernel),
    after_of_writes_sub _ _ hostOps0_4_writes (by decide +kernel), after_of_writes_sub _ _ hostOps0_3_writes (by decide +kernel),
    after_of_writes_sub _ _ hostOps0_2_writes (by decide +kernel), after_of_writes_sub _ _ hostOps0_1_writes (by decide +kernel),
    after_of_writes_sub _ _ hostOps0_writes (by decide +kernel)]

/-- No operation of a trip writes it. -/
theorem trip_arg0 (V : Valuation τ sig (Elt F)) : afterL bodyI (after condOps V) A = V A := by
  simp only [bodyI, afterL_cons, afterL_nil]
  rw [after_of_writes_sub _ _ while0Ops0_2_writes (by decide +kernel), after_of_writes_sub _ _ while0Ops0_1_writes (by decide +kernel),
    after_of_writes_sub _ _ while0Ops0_writes (by decide +kernel), after_of_writes_sub _ _ condOps_writes (by decide +kernel)]

/-- No operation after the loop writes it. -/
theorem post_arg0 (V : Valuation τ sig (Elt F)) : afterL postI V A = V A := by
  show afterL postI V (Proc.devRef .tc main_arg0) = V (Proc.devRef .tc main_arg0)
  simp only [postI, afterL_cons, afterL_nil]
  after_reads_simp

/-- The argument at the start of trip `k`. -/
theorem atK_arg0 (c : Dev nD) : ∀ k, atK m k c A = m ((c.tc : Thread nD τ).loc main_arg0)
  | 0 => pre_arg0 _
  | k + 1 => (trip_arg0 _).trans (atK_arg0 c k)

/-- The argument at the end. -/
theorem final_arg0 (c : Dev nD) :
    finalContents condOps preI bodyI postI 5000 m c A = m ((c.tc : Thread nD τ).loc main_arg0) :=
  (post_arg0 _).trans ((after_of_writes_sub _ _ condOps_writes (by decide +kernel)).trans (atK_arg0 m c 5000))

/-- The reference's run: the argument and the counters. -/
theorem run_frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0))
      ∧ r.2.sem = fun _ => 0) :=
  (θ_run defs _ _).mono (fun r h => ⟨fun c => (h c main_arg0 rfl).trans (final_arg0 m c), sem_eq_zero_of_no_sems rfl r.2⟩)
    (run_fold m ρ)

end Cert.Proof.RI

end
-- ==== Proof.KI.Pick.lean ====
/-
  What one trip picks, in numbers: the box of highest score, of several the first; its row; and the scores left after it.
-/
module

public import proofs.«01_k».proof.Proof.KI.Step
public import Idealize.ShloMosaic.PureOps.Ideal.Laws
public import Idealize.ShloMosaic.Lib.Pipeline.Value
public import Idealize.ShloMosaic.Lib.ValueIdx

@[expose] public section

noncomputable section

namespace Cert.Proof.KI

open Cert.KernelIdeal Cert.KernelIdeal.Gen
open Idealize.ShloMosaic Idealize.ShloMosaic.ValueIdx

/-- The position of a cell of the plane, row by row. -/
def num (p : S40x128.Idx) : ℕ := (p 0).val * 128 + (p 1).val

/-- A cell has a number below 5120. -/
theorem num_lt (p : S40x128.Idx) : num p < 5120 := by
  have h0 : (p 0).val < 40 := (p 0).isLt
  have h1 : (p 1).val < 128 := (p 1).isLt
  unfold num; omega

/-- Cells with the same number are the same. -/
theorem num_inj {p q : S40x128.Idx} (h : num p = num q) : p = q := by
  have h1 : (p 1).val < 128 := (p 1).isLt
  have h1' : (q 1).val < 128 := (q 1).isLt
  unfold num at h
  funext a
  match a with
  | ⟨0, _⟩ => exact Fin.ext (show (p 0).val = (q 0).val by omega)
  | ⟨1, _⟩ => exact Fin.ext (show (p 1).val = (q 1).val by omega)

/-- A slab flattened to a plane, read at a cell. -/
theorem down_apply {α : Type} (v : S1x40x128.Idx → α) (p : S40x128.Idx) :
    shapeCast S40x128 v shapeCasts_S1x40x128_S40x128 p = v (ix3 0 (p 0) (p 1)) :=
  shapeCast_apply v _ p _ (by
    rw [Shape.rowMajor_val_two, Shape.rowMajor_val_three]
    show ((0 : ℕ) * 40 + (p 0).val) * 128 + (p 1).val = (p 0).val * 128 + (p 1).val
    omega)

/-- A plane as a slab, read at an index. -/
theorem up_apply {α : Type} (v : S40x128.Idx → α) (y : S1x40x128.Idx) :
    shapeCast S1x40x128 v shapeCasts_S40x128_S1x40x128 y = v (ix2 (y 1) (y 2)) :=
  shapeCast_apply v _ y _ (by
    rw [Shape.rowMajor_val_two, Shape.rowMajor_val_three]
    have h0 : (y 0).val = 0 := Nat.lt_one_iff.mp (y 0).isLt
    show (y 1).val * 128 + (y 2).val = ((y 0).val * 40 + (y 1).val) * 128 + (y 2).val
    rw [h0]; omega)

/-- The one element of a vector of one, taken out. -/
theorem one_apply {α : Type} (v : S1.Idx → α) :
    extractAt ![0, 0, 0] (shapeCast S1x1x1 v shapeCasts_S1_S1x1x1) inpos_S1x1x1_p0_0_0 = v (ix1 0) := by
  unfold extractAt
  refine shapeCast_apply v _ _ _ ?_
  rw [Shape.rowMajor_val_one, Shape.rowMajor_val_three]
  rfl

/-- The sum of the cells of a plane where a mask is set. -/
def take (mask : IVec S40x128 1) (x : Vec Ideal S1x40x128 .f32) : EReal :=
  extractAt ![0, 0, 0] (shapeCast S1x1x1 (multiReduction .add [1, 2] S1 (shapeCast S1x40x128 (select mask
    (shapeCast S40x128 x shapeCasts_S1x40x128_S40x128) (broadcast S40x128 (Scalar.ofBits .f32 0x00000000#32 : Ideal .f32)))
    shapeCasts_S40x128_S1x40x128) 0x00000000#32 reduces_S1x40x128_S1 (.inl rfl) rfl) shapeCasts_S1_S1x1x1) inpos_S1x1x1_p0_0_0

/-- With the mask set at one cell only, the sum is that cell. -/
theorem take_eq (mask : IVec S40x128 1) (x : Vec Ideal S1x40x128 .f32) (q : S40x128.Idx) (h : ∀ p, mask p = 1#1 ↔ p = q) :
    take mask x = x (ix3 0 (q 0) (q 1)) := by
  unfold take
  rw [one_apply]
  refine (Ideal.multiReduction_add_total _ _ _ (fun b => by match b with | ⟨0, _⟩ => rfl) _ _ _).trans ?_
  refine (Finset.sum_eq_single (M := EReal) (ix3 (0 : Fin 1) (q 0) (q 1) : S1x40x128.Idx) ?_ ?_).trans ?_
  · intro y _ hy
    rw [up_apply]
    show Scalar.select (mask (ix2 (y 1) (y 2))) _ _ = _
    have hne : mask (ix2 (y 1) (y 2)) ≠ 1#1 := fun hm => hy (by
      have := (h _).mp hm
      funext a
      match a with
      | ⟨0, _⟩ => exact Fin.ext (Nat.lt_one_iff.mp (y 0).isLt)
      | ⟨1, _⟩ => exact congrFun this 0
      | ⟨2, _⟩ => exact congrFun this 1)
    exact (if_neg hne).trans Ideal.ofBits_zero_f32
  · intro hn
    exact absurd (Finset.mem_univ _) hn
  · rw [up_apply]
    show Scalar.select (mask (ix2 (q 0) (q 1))) _ _ = _
    rw [show (ix2 (q 0) (q 1) : S40x128.Idx) = q from by funext a; match a with | ⟨0, _⟩ => rfl | ⟨1, _⟩ => rfl, (h q).mpr rfl]
    exact down_apply x q

/-- A fold by an operation that gives one of its two operands, and one that is related to both, gives the start or one of
    the values, and is related to all values. -/
theorem fold_spec {ι α : Type} (op : α → α → α) [Std.Commutative op] [Std.Associative op] (R : α → α → Prop) (z : α) (f : ι → α)
    (hr : ∀ x, R x x) (ht : ∀ x y w, R x y → R y w → R x w) (h1 : ∀ x y, op x y = x ∨ op x y = y)
    (h2 : ∀ x y, R (op x y) x ∧ R (op x y) y) (S : Finset ι) :
    (S.fold op z f = z ∨ ∃ i ∈ S, S.fold op z f = f i) ∧ ∀ i ∈ S, R (S.fold op z f) (f i) := by
  classical
  induction S using Finset.induction with
  | empty => exact ⟨.inl rfl, fun i hi => absurd hi (Finset.notMem_empty i)⟩
  | insert a S ha ih =>
    rw [Finset.fold_insert ha]
    refine ⟨?_, fun i hi => ?_⟩
    · rcases h1 (f a) (S.fold op z f) with e | e
      · exact .inr ⟨a, Finset.mem_insert_self a S, e⟩
      · rcases ih.1 with e' | ⟨i, hi, e'⟩
        · exact .inl (e.trans e')
        · exact .inr ⟨i, Finset.mem_insert_of_mem hi, e.trans e'⟩
    · rcases Finset.mem_insert.mp hi with rfl | hi'
      · exact (h2 _ _).1
      · exact ht _ _ _ (h2 _ _).2 (ih.2 i hi')

/-- Minus infinity, as its bits read. -/
theorem low_eq : (FloatOps.ofBits .f32 0xFF800000#32 : Ideal .f32) = (⊥ : EReal) := by
  show Ideal.ofBits .f32 0xFF800000#32 = ⊥
  simp [Ideal.ofBits, Ideal.ieee]

/-- Every cell drops to the one element of the reduced vector. -/
theorem drop_one (y : S1x40x128.Idx) (j : S1.Idx) : reduces_S1x40x128_S1.drop y = j := by
  funext a
  match a with
  | ⟨0, _⟩ => exact Fin.ext ((Nat.lt_one_iff.mp (Fin.isLt (n := 1) _)).trans (Nat.lt_one_iff.mp (Fin.isLt (n := 1) _)).symm)

/-- A cell of a plane, as an index of the slab and back. -/
theorem cell_eq (p : S40x128.Idx) : (ix2 (p 0) (p 1) : S40x128.Idx) = p := by
  funext a
  match a with
  | ⟨0, _⟩ => rfl
  | ⟨1, _⟩ => rfl

/-- The top of a plane is above all its cells, and one of them unless minus infinity. -/
theorem top_spec (v : FVec Ideal S40x128 .f32) :
    (∀ p, (v p : EReal) ≤ k0_pay306 (F := Ideal) v) ∧ ((∃ p, k0_pay306 (F := Ideal) v = v p) ∨ k0_pay306 (F := Ideal) v = (⊥ : EReal)) := by
  have e : k0_pay306 (F := Ideal) v = (Finset.univ.filter fun i => reduces_S1x40x128_S1.drop i = ix1 0).fold FloatOps.maximumf
      (FloatOps.ofBits .f32 0xFF800000#32) (shapeCast S1x40x128 v shapeCasts_S40x128_S1x40x128) := by
    refine Eq.trans ?_ (multiReduction_maximumf_eq_fold _ _ _ (.inl rfl) rfl _)
    exact one_apply _
  have h := fold_spec (α := Ideal .f32) FloatOps.maximumf (fun x y => (y : EReal) ≤ x) (FloatOps.ofBits .f32 0xFF800000#32)
    (shapeCast S1x40x128 v shapeCasts_S40x128_S1x40x128) (fun x => le_refl (α := EReal) x) (fun x y w h h' => le_trans (α := EReal) h' h)
    (fun x y => (max_choice (α := EReal) x y)) (fun x y => ⟨le_max_left (α := EReal) x y, le_max_right (α := EReal) x y⟩)
    (Finset.univ.filter fun i => reduces_S1x40x128_S1.drop i = ix1 0)
  rw [← e] at h
  refine ⟨fun p => ?_, ?_⟩
  · have := h.2 (ix3 0 (p 0) (p 1)) (Finset.mem_filter.mpr ⟨Finset.mem_univ _, drop_one _ _⟩)
    rw [up_apply] at this
    exact (congrArg v (cell_eq p)).symm.le.trans this
  · rcases h.1 with h' | ⟨i, _, h'⟩
    · exact .inr (h'.trans low_eq)
    · exact .inl ⟨_, h'.trans (up_apply v i)⟩

/-- The index plane read at a cell. -/
def nums : IVec S40x128 32 := fun p => BitVec.ofNat 32 (num p)

/-- A position as a signed word. -/
theorem nums_toInt (p : S40x128.Idx) : (nums p).toInt = num p := by
  have := num_lt p
  show (BitVec.ofNat 32 (num p)).toInt = num p
  rw [BitVec.toInt_eq_toNat_of_lt (by rw [BitVec.toNat_ofNat]; omega), BitVec.toNat_ofNat]
  omega

/-- The least position among the cells that hold the highest score, as the kernel reduces it. -/
def least (m : Ideal .f32) (s : Vec Ideal S1x40x128 .f32) : IVec S1 32 :=
  multiReductionI .minsi [1, 2] S1 (shapeCast S1x40x128 (select (cmpf .oeq (shapeCast S40x128 s shapeCasts_S1x40x128_S40x128)
    (broadcast S40x128 m)) nums (broadcast S40x128 5120#32)) shapeCasts_S40x128_S1x40x128) 2147483647#32 reduces_S1x40x128_S1 rfl

/-- The mask compares each position with the least. -/
theorem mask_eq (m : Ideal .f32) (s : Vec Ideal S1x40x128 .f32) :
    k0_pay293 (F := Ideal) m nums s
      = cmpi .eq nums (broadcast S40x128 (extractAt ![0, 0, 0] (shapeCast S1x1x1 (least m s) shapeCasts_S1_S1x1x1) inpos_S1x1x1_p0_0_0)) := rfl

/-- The mask is set at the first cell that holds the highest score. -/
theorem mask_spec (m : Ideal .f32) (s : Vec Ideal S1x40x128 .f32) (q : S40x128.Idx) (hq : (s (ix3 0 (q 0) (q 1)) : EReal) = m)
    (hmin : ∀ p : S40x128.Idx, (s (ix3 0 (p 0) (p 1)) : EReal) = m → num q ≤ num p) (p : S40x128.Idx) :
    k0_pay293 (F := Ideal) m nums s p = 1#1 ↔ p = q := by
  let w : IVec S40x128 32 := select (cmpf .oeq (shapeCast S40x128 s shapeCasts_S1x40x128_S40x128) (broadcast S40x128 m)) nums (broadcast S40x128 5120#32)
  have hw : ∀ p, w p = if (s (ix3 0 (p 0) (p 1)) : EReal) = m then nums p else 5120#32 := fun p => by
    show Scalar.select (Ideal.cmp .oeq (shapeCast S40x128 s shapeCasts_S1x40x128_S40x128 p) m) _ _ = _
    rw [down_apply]
    by_cases h : (s (ix3 0 (p 0) (p 1)) : EReal) = m
    · simp [Scalar.select, Ideal.cmp, h]
    · simp [Scalar.select, Ideal.cmp, h]
      rfl
  have hN : least m s (ix1 0) = nums q := by
    have e : least m s (ix1 0) = _ := multiReductionI_eq_fold .minsi (shapeCast S1x40x128 w shapeCasts_S40x128_S1x40x128) 2147483647#32 reduces_S1x40x128_S1 rfl (ix1 0)
    have h := fold_spec (IKind.op .minsi) (fun x y : BitVec 32 => x.toInt ≤ y.toInt) 2147483647#32
      (shapeCast S1x40x128 w shapeCasts_S40x128_S1x40x128) (fun x => le_refl _) (fun x y w h h' => le_trans h h')
      (fun x y => by show IntOp.minsi x y = x ∨ IntOp.minsi x y = y; unfold IntOp.minsi; split <;> simp)
      (fun x y => by
        show (IntOp.minsi x y).toInt ≤ x.toInt ∧ (IntOp.minsi x y).toInt ≤ y.toInt
        unfold IntOp.minsi
        by_cases hxy : x.slt y = true
        · rw [if_pos hxy]; rw [BitVec.slt_iff_toInt_lt] at hxy; omega
        · rw [if_neg hxy]; rw [BitVec.slt_iff_toInt_lt] at hxy; omega)
      (Finset.univ.filter fun i => reduces_S1x40x128_S1.drop i = ix1 0)
    rw [← e] at h
    have hle := h.2 (ix3 0 (q 0) (q 1)) (Finset.mem_filter.mpr ⟨Finset.mem_univ _, drop_one _ _⟩)
    rw [up_apply, show w (ix2 _ _) = w q from congrArg w (cell_eq q), hw, if_pos hq, nums_toInt] at hle
    have hlt := num_lt q
    rcases h.1 with h' | ⟨i, _, h'⟩
    · rw [h'] at hle
      have : (2147483647#32 : BitVec 32).toInt = 2147483647 := by decide
      omega
    · rw [up_apply, hw] at h'
      by_cases hm : (s (ix3 0 ((ix2 (i 1) (i 2) : S40x128.Idx) 0) ((ix2 (i 1) (i 2) : S40x128.Idx) 1)) : EReal) = m
      · rw [if_pos hm] at h'
        have := hmin _ hm
        rw [h', nums_toInt] at hle
        rw [h', num_inj (p := ix2 (i 1) (i 2)) (q := q) (by omega)]
      · rw [if_neg hm] at h'
        rw [h'] at hle
        have : (5120#32 : BitVec 32).toInt = 5120 := by decide
        omega
  rw [mask_eq, one_apply, hN]
  show BitVec.ofBool (nums p == nums q) = 1#1 ↔ _
  by_cases hpq : p = q
  · simp [hpq]
  · have : nums p ≠ nums q := fun h => hpq (num_inj (by
      have := congrArg BitVec.toInt h
      rw [nums_toInt, nums_toInt] at this
      omega))
    have hb : (nums p == nums q) = false := beq_false_of_ne this
    rw [hb]
    exact ⟨fun h => absurd h (by decide), fun h => absurd h hpq⟩

end Cert.Proof.KI

end
-- ==== Proof.Pure.Nms.lean ====
/-
  Greedy suppression, twice. One way goes down a list of positions, best first, and lets each position that is still standing
  strike the later ones it overlaps (`Sup`). The other way takes, again and again, the first position still standing. Both keep
  the same positions in the same order (`Nms.next_none`, `Nms.next_some`).
-/
module

public import Idealize.ShloMosaic.Lib.SortFacts
public import Idealize.ShloMosaic.Lib.IdealHost

@[expose] public section

namespace Cert.Proof.Pure

variable {n : ℕ}

/-- The struck positions after the first `i` positions have had their turn: `init` says what is struck at the start, `K r p`
    that position `r` overlaps position `p`. -/
def Sup (init : Fin n → Prop) (K : Fin n → Fin n → Prop) : ℕ → Fin n → Prop
  | 0, p => init p
  | i + 1, p => Sup init K i p ∨ ∃ r : Fin n, r.val = i ∧ ¬ Sup init K i r ∧ K r p ∧ i < p.val

/-- What is struck stays struck. -/
theorem Sup.mono {init : Fin n → Prop} {K : Fin n → Fin n → Prop} {i j : ℕ} (h : i ≤ j) {p : Fin n} (hs : Sup init K i p) :
    Sup init K j p := by
  induction h with
  | refl => exact hs
  | step _ ih => exact Or.inl ih

/-- A position is not struck any more once its own turn has come. -/
theorem Sup.settled {init : Fin n → Prop} {K : Fin n → Fin n → Prop} {j : ℕ} {p : Fin n} (hj : p.val ≤ j)
    (hs : Sup init K j p) : Sup init K p.val p := by
  induction hj with
  | refl => exact hs
  | step h ih =>
    rcases hs with hs | ⟨r, _, _, _, hr⟩
    · exact ih hs
    · exact absurd hr (Nat.not_lt.mpr h)

/-- A struck position's turn changes nothing. -/
theorem Sup.turn_struck {init : Fin n → Prop} {K : Fin n → Fin n → Prop} {i : ℕ} (hi : i < n)
    (h : Sup init K i ⟨i, hi⟩) (p : Fin n) : Sup init K (i + 1) p ↔ Sup init K i p := by
  refine ⟨fun hs => ?_, Or.inl⟩
  rcases hs with hs | ⟨r, hr, hn, _, _⟩
  · exact hs
  · exact absurd (by rwa [show r = ⟨i, hi⟩ from Fin.ext hr]) hn

/-- A stretch of struck positions changes nothing. -/
theorem Sup.stretch {init : Fin n → Prop} {K : Fin n → Fin n → Prop} {t q : ℕ} (htq : t ≤ q) (hq : q ≤ n)
    (h : ∀ r : Fin n, t ≤ r.val → r.val < q → Sup init K t r) (p : Fin n) : Sup init K q p ↔ Sup init K t p := by
  induction htq with
  | refl => rfl
  | step htm ih =>
    rename_i m
    have hm : m < n := hq
    have ih' := ih (by omega) fun r h₁ h₂ => h r h₁ (by omega)
    exact (Sup.turn_struck hm (Sup.mono htm (h ⟨m, hm⟩ htm (by simp))) p).trans ih'

/-- The positions kept among those whose score counts (`L`). -/
def Kept (L init : Fin n → Prop) (K : Fin n → Fin n → Prop) (p : Fin n) : Prop := L p ∧ ¬ Sup init K n p

open Classical in
/-- How many positions before `i` are kept. -/
noncomputable def rank (L init : Fin n → Prop) (K : Fin n → Fin n → Prop) (i : ℕ) : ℕ :=
  (Finset.univ.filter fun p : Fin n => Kept L init K p ∧ p.val < i).card

/-- The positions still standing when every position before `t` is dealt with. -/
def Live (L init : Fin n → Prop) (K : Fin n → Fin n → Prop) (t : ℕ) (p : Fin n) : Prop :=
  t ≤ p.val ∧ L p ∧ ¬ Sup init K t p

variable {L init : Fin n → Prop} {K : Fin n → Fin n → Prop}

/-- Nothing is kept before the first position. -/
theorem rank_zero : rank L init K 0 = 0 := by simp [rank]

/-- The count does not go down. -/
theorem rank_mono {i j : ℕ} (h : i ≤ j) : rank L init K i ≤ rank L init K j :=
  Finset.card_le_card fun p hp => by
    simp only [Finset.mem_filter, Finset.mem_univ, true_and] at hp ⊢
    exact ⟨hp.1, by omega⟩

/-- The count goes up past a kept position. -/
theorem rank_lt {p : Fin n} (hp : Kept L init K p) {j : ℕ} (h : p.val < j) : rank L init K p.val < rank L init K j := by
  refine Finset.card_lt_card (Finset.ssubset_iff_of_subset (fun q hq => ?_) |>.mpr ⟨p, ?_, ?_⟩)
  · simp only [Finset.mem_filter, Finset.mem_univ, true_and] at hq ⊢
    exact ⟨hq.1, by omega⟩
  · simpa using ⟨hp, h⟩
  · simp

/-- Kept positions with the same count before them are one position. -/
theorem rank_inj {p q : Fin n} (hp : Kept L init K p) (hq : Kept L init K q)
    (h : rank L init K p.val = rank L init K q.val) : p = q := by
  rcases lt_trichotomy p.val q.val with hlt | heq | hlt
  · exact absurd (rank_lt hp hlt) (by omega)
  · exact Fin.ext heq
  · exact absurd (rank_lt hq hlt) (by omega)

/-- With no position standing, none from `t` on is kept. -/
theorem Nms.next_none {t : ℕ} (h : ∀ p, ¬ Live L init K t p) (p : Fin n) (hp : Kept L init K p) : p.val < t := by
  by_contra hlt
  exact h p ⟨by omega, hp.1, fun hs => hp.2 (Sup.mono (by
    by_contra hc
    exact hp.2 (Sup.mono (Nat.le_of_lt p.isLt) (Sup.settled (by omega) hs))) hs)⟩

open Classical in
/-- The first position standing: it is kept, no kept position lies between, and what stands afterwards is what stood, without it
    and without what it overlaps. -/
theorem Nms.next_some {t : ℕ} {q : Fin n} (hq : Live L init K t q) (hmin : ∀ p, Live L init K t p → q.val ≤ p.val)
    (hL : ∀ p r : Fin n, p.val ≤ r.val → L r → L p) :
    Kept L init K q ∧ rank L init K q.val = rank L init K t ∧ rank L init K (q.val + 1) = rank L init K t + 1 ∧
      (∀ p, Kept L init K p → p.val < q.val + 1 → p.val < t ∨ p = q) ∧
      ∀ p, Live L init K (q.val + 1) p ↔ Live L init K t p ∧ p ≠ q ∧ ¬ K q p := by
  obtain ⟨htq, hLq, hsq⟩ := hq
  have hst : ∀ r : Fin n, t ≤ r.val → r.val < q.val → Sup init K t r := by
    intro r h₁ h₂
    by_contra hc
    exact absurd (hmin r ⟨h₁, hL r q (by omega) hLq, hc⟩) (by omega)
  have heq := Sup.stretch htq (by omega) hst
  have hqq : ¬ Sup init K q.val q := fun h => hsq ((heq q).mp h)
  have hk : Kept L init K q := ⟨hLq, fun h => hqq (Sup.settled (by omega) h)⟩
  have hbetween : ∀ p, Kept L init K p → p.val < q.val + 1 → p.val < t ∨ p = q := by
    intro p hp hlt
    by_contra hc
    push Not at hc
    have hpq : p.val ≠ q.val := fun h => hc.2 (Fin.ext h)
    exact hp.2 (Sup.mono (by omega) (hst p hc.1 (by omega)))
  have hr : rank L init K q.val = rank L init K t := by
    unfold rank
    congr 1
    ext p
    simp only [Finset.mem_filter, Finset.mem_univ, true_and]
    refine ⟨fun ⟨h, hlt⟩ => ⟨h, ?_⟩, fun ⟨h, hlt⟩ => ⟨h, by omega⟩⟩
    rcases hbetween p h (by omega) with h' | h'
    · exact h'
    · rw [h'] at hlt; omega
  have hr1 : rank L init K (q.val + 1) = rank L init K q.val + 1 := by
    unfold rank
    rw [show (Finset.univ.filter fun p : Fin n => Kept L init K p ∧ p.val < q.val + 1)
      = insert q (Finset.univ.filter fun p : Fin n => Kept L init K p ∧ p.val < q.val) from ?_]
    · rw [Finset.card_insert_of_notMem (by simp)]
    · ext p
      simp only [Finset.mem_filter, Finset.mem_univ, true_and, Finset.mem_insert]
      refine ⟨fun ⟨h, hlt⟩ => ?_, fun h => ?_⟩
      · by_cases hpq : p.val = q.val
        · exact Or.inl (Fin.ext hpq)
        · exact Or.inr ⟨h, by omega⟩
      · rcases h with rfl | ⟨h, hlt⟩
        · exact ⟨hk, by omega⟩
        · exact ⟨h, by omega⟩
  refine ⟨hk, hr, by omega, hbetween, fun p => ⟨fun ⟨h₁, h₂, h₃⟩ => ?_, fun ⟨⟨h₁, h₂, h₃⟩, h₄, h₅⟩ => ?_⟩⟩
  · have hs : ¬ Sup init K t p := fun h => h₃ (Sup.mono (by omega) h)
    refine ⟨⟨by omega, h₂, hs⟩, fun h => by rw [h] at h₁; omega, fun h => h₃ (Or.inr ⟨q, rfl, hqq, h, by omega⟩)⟩
  · have hle := hmin p ⟨h₁, h₂, h₃⟩
    have hne : p.val ≠ q.val := fun h => h₄ (Fin.ext h)
    refine ⟨by omega, h₂, fun h => ?_⟩
    rcases h with h | ⟨r, hr, _, hK, _⟩
    · exact h₃ ((heq p).mp h)
    · exact h₅ (by rwa [show r = q from Fin.ext hr] at hK)

end Cert.Proof.Pure

end
-- ==== Proof.Pure.Spec.lean ====
/-
  What both programs compute of an image's detections, in numbers: the box, class and score of a detection, the overlap of
  two boxes, and which rows the image's table has.
-/
module

public import proofs.«01_k».proof.Proof.Pure.Nms
public import Idealize.ShloMosaic.Lib.IdealHost

@[expose] public section

noncomputable section

namespace Cert.Proof.Pure

open Idealize.ShloMosaic

/-- A box: its corners and its area. -/
@[ext] structure Box where
  x1 : EReal
  y1 : EReal
  x2 : EReal
  y2 : EReal
  ar : EReal

/-- The area two boxes share. -/
def inter (a b : Box) : EReal := max (min a.x2 b.x2 - max a.x1 b.x1) 0 * max (min a.y2 b.y2 - max a.y1 b.y1) 0

/-- The share of the area of two boxes they have in common. -/
def iou (a b : Box) : EReal := Ideal.div (inter a b) (a.ar + b.ar - inter a b)

/-- Whether two boxes overlap by more than half. -/
def Over (a b : Box) : Prop := Ideal.ofBits .f32 0x3F000000#32 < iou a b

/-- The attributes of one detection: the centre, width and height, the objectness, the confidence in each of 80 classes. -/
abbrev Det := Fin 85 → EReal

variable (d : Det)

/-- The highest class confidence among the classes up to `n`. -/
def best : ℕ → EReal
  | 0 => d 5
  | n + 1 => if best n < d (Fin.ofNat 85 (n + 6)) then d (Fin.ofNat 85 (n + 6)) else best n

/-- The first class of highest confidence among the classes up to `n`. -/
def cls : ℕ → BitVec 32
  | 0 => 0#32
  | n + 1 => if best d n < d (Fin.ofNat 85 (n + 6)) then BitVec.ofNat 32 (n + 1) else cls n

/-- The class as a number. -/
def clsF : EReal := (((cls d 79).toInt : ℝ) : EReal)

/-- Half of an attribute. -/
def half (k : Fin 85) : EReal := Ideal.div (d k) (Ideal.ofBits .f32 0x40000000#32)

/-- How far a box is shifted for its class. -/
def shift : EReal := clsF d * Ideal.ofBits .f32 0x45F00000#32

/-- The box of a detection, shifted for its class. -/
def box : Box where
  x1 := d 0 - half d 2 + shift d
  y1 := d 1 - half d 3 + shift d
  x2 := d 0 + half d 2 + shift d
  y2 := d 1 + half d 3 + shift d
  ar := (d 0 + half d 2 + shift d - (d 0 - half d 2 + shift d)) * (d 1 + half d 3 + shift d - (d 1 - half d 3 + shift d))

/-- Whether the objectness is above the threshold. -/
def Valid : Prop := Ideal.ofBits .f32 0x3E800000#32 < d 4

open Classical in
/-- The score: objectness times class confidence, minus infinity where the objectness is not above the threshold. -/
def score : EReal := if Valid d then d 4 * best d 79 else ⊥

/-- The row a detection gets in the table. -/
def row : Fin 6 → EReal := ![d 0 - half d 2, d 1 - half d 3, d 0 + half d 2, d 1 + half d 3, score d, clsF d]

section Image

variable (D : Fin 5000 → Det) (σ : Fin 5000 → Fin 5000)

/-- The box at a position of the order has a score. -/
def Scored (p : Fin 5000) : Prop := ⊥ < score (D (σ p))

/-- The box at a position of the order is out from the start. -/
def Out (p : Fin 5000) : Prop := ¬ Valid (D (σ p))

/-- The box at one position of the order strikes out the one at another. -/
def Strikes (p r : Fin 5000) : Prop := Over (box (D (σ p))) (box (D (σ r)))

/-- The rows of an image's table: row `j` is that of the box kept after `j` others, and zero when there is none. -/
def IsRow (j : ℕ) (f : Fin 6 → EReal) : Prop :=
  (∀ q, Kept (Scored D σ) (Out D σ) (Strikes D σ) q → rank (Scored D σ) (Out D σ) (Strikes D σ) q.val = j → f = row (D (σ q))) ∧
    ((∀ q, Kept (Scored D σ) (Out D σ) (Strikes D σ) q → rank (Scored D σ) (Out D σ) (Strikes D σ) q.val ≠ j) → f = fun _ => 0)

/-- There is one such row. -/
theorem IsRow.unique {j : ℕ} {f g : Fin 6 → EReal} (hf : IsRow D σ j f) (hg : IsRow D σ j g) : f = g := by
  by_cases h : ∃ q, Kept (Scored D σ) (Out D σ) (Strikes D σ) q ∧ rank (Scored D σ) (Out D σ) (Strikes D σ) q.val = j
  · obtain ⟨q, hq, hr⟩ := h
    rw [hf.1 q hq hr, hg.1 q hq hr]
  · have h' : ∀ q, Kept (Scored D σ) (Out D σ) (Strikes D σ) q → rank (Scored D σ) (Out D σ) (Strikes D σ) q.val ≠ j :=
      fun q hq hr => h ⟨q, hq, hr⟩
    rw [hf.2 h', hg.2 h']

end Image

end Cert.Proof.Pure

end
-- ==== Proof.KI.Det.lean ====
/-
  What the kernel computes of its detections before the loop, in numbers: at every cell, the box, class and score of the
  detection there.
-/
module

public import proofs.«01_k».proof.Proof.KI.Init
public import proofs.«01_k».proof.Proof.KI.Pick
public import proofs.«01_k».proof.Proof.Pure.Spec

@[expose] public section

noncomputable section

namespace Cert.Proof.KI

open Cert.KernelIdeal Cert.KernelIdeal.Gen
open Idealize.ShloMosaic Idealize.ShloMosaic.ValueIdx

variable (X : Vec Ideal S4x85x40x128 .f32) (b : Fin 4) (p : S40x128.Idx)

/-- The cell of an image, as an index of the four. -/
abbrev at3 (b : Fin 4) (p : S40x128.Idx) : S4x40x128.Idx := ix3 b (p 0) (p 1)

/-- The detection at a cell of an image. -/
def det : Pure.Det := fun k => X (ix4 b k (p 0) (p 1))

/-- An attribute at a cell. -/
theorem col_apply (k : Fin 85) : col X k (at3 b p) = det X b p k := by
  unfold col
  rw [shapeCast_apply (attr X k) _ (at3 b p) (ix4 b 0 (p 0) (p 1)) (by
    rw [Shape.rowMajor_val_three, Shape.rowMajor_val_four]
    show ((b.val * 1 + 0) * 40 + (p 0).val) * 128 + (p 1).val = (b.val * 40 + (p 0).val) * 128 + (p 1).val
    omega)]
  unfold attr det
  congr 1
  funext a
  match a with
  | ⟨0, _⟩ => exact Fin.ext (show 0 + 1 * b.val = b.val by omega)
  | ⟨1, _⟩ => exact Fin.ext (show k.val + 1 * 0 = k.val by omega)
  | ⟨2, _⟩ => exact Fin.ext (show 0 + 1 * (p 0).val = (p 0).val by omega)
  | ⟨3, _⟩ => exact Fin.ext (show 0 + 1 * (p 1).val = (p 1).val by omega)

/-- A choice by a comparison is a choice by the order. -/
theorem select_gt {α : Type} (x y : EReal) (u v : α) : Scalar.select (Ideal.cmp .ogt x y) u v = if y < x then u else v := by
  by_cases h : y < x <;> simp [Scalar.select, Ideal.cmp, h]

/-- The highest confidence so far, at a cell. -/
theorem best_apply (n : ℕ) : Init.best X n (at3 b p) = Pure.best (det X b p) n := by
  induction n with
  | zero => exact col_apply X b p 5
  | succ n ih =>
    show Scalar.select (Ideal.cmp .ogt (col X (Fin.ofNat 85 (n + 6)) (at3 b p)) (Init.best X n (at3 b p))) (col X (Fin.ofNat 85 (n + 6)) (at3 b p))
      (Init.best X n (at3 b p)) = _
    rw [col_apply, ih]
    exact select_gt _ _ _ _

/-- The class so far, at a cell. -/
theorem cls_apply (n : ℕ) : Init.cls X n (at3 b p) = Pure.cls (det X b p) n := by
  induction n with
  | zero => rfl
  | succ n ih =>
    show Scalar.select (Ideal.cmp .ogt (col X (Fin.ofNat 85 (n + 6)) (at3 b p)) (Init.best X n (at3 b p))) (BitVec.ofNat 32 (n + 1))
      (Init.cls X n (at3 b p)) = _
    rw [col_apply, best_apply, ih]
    exact select_gt _ _ _ _

/-- The class as a number, at a cell. -/
theorem clsF_apply : Init.clsF X (at3 b p) = Pure.clsF (det X b p) := by
  show (((Init.cls X 79 (at3 b p)).toInt : ℝ) : EReal) = _
  rw [cls_apply]
  rfl

/-- Half an attribute, at a cell. -/
theorem half_apply (k : Fin 85) : Init.half X k (at3 b p) = Pure.half (det X b p) k := by
  show Ideal.div (col X k (at3 b p)) _ = _
  rw [col_apply]
  rfl

/-- The shift, at a cell. -/
theorem shift_apply : Init.shift X (at3 b p) = Pure.shift (det X b p) := by
  show (Init.clsF X (at3 b p) : EReal) * _ = _
  rw [clsF_apply]
  rfl

/-- The left edge, at a cell. -/
theorem x1_apply : Init.x1 X (at3 b p) = (det X b p 0 - Pure.half (det X b p) 2 : EReal) := by
  show (col X 0 (at3 b p) : EReal) - Init.half X 2 (at3 b p) = _
  rw [col_apply, half_apply]

/-- The top edge, at a cell. -/
theorem y1_apply : Init.y1 X (at3 b p) = (det X b p 1 - Pure.half (det X b p) 3 : EReal) := by
  show (col X 1 (at3 b p) : EReal) - Init.half X 3 (at3 b p) = _
  rw [col_apply, half_apply]

/-- The right edge, at a cell. -/
theorem x2_apply : Init.x2 X (at3 b p) = (det X b p 0 + Pure.half (det X b p) 2 : EReal) := by
  show (col X 0 (at3 b p) : EReal) + Init.half X 2 (at3 b p) = _
  rw [col_apply, half_apply]

/-- The bottom edge, at a cell. -/
theorem y2_apply : Init.y2 X (at3 b p) = (det X b p 1 + Pure.half (det X b p) 3 : EReal) := by
  show (col X 1 (at3 b p) : EReal) + Init.half X 3 (at3 b p) = _
  rw [col_apply, half_apply]

/-- The shifted left edge, at a cell. -/
theorem ox1_apply : Init.ox1 X (at3 b p) = (Pure.box (det X b p)).x1 := by
  show (Init.x1 X (at3 b p) : EReal) + Init.shift X (at3 b p) = _
  rw [x1_apply, shift_apply]
  rfl

/-- The shifted top edge, at a cell. -/
theorem oy1_apply : Init.oy1 X (at3 b p) = (Pure.box (det X b p)).y1 := by
  show (Init.y1 X (at3 b p) : EReal) + Init.shift X (at3 b p) = _
  rw [y1_apply, shift_apply]
  rfl

/-- The shifted right edge, at a cell. -/
theorem ox2_apply : Init.ox2 X (at3 b p) = (Pure.box (det X b p)).x2 := by
  show (Init.x2 X (at3 b p) : EReal) + Init.shift X (at3 b p) = _
  rw [x2_apply, shift_apply]
  rfl

/-- The shifted bottom edge, at a cell. -/
theorem oy2_apply : Init.oy2 X (at3 b p) = (Pure.box (det X b p)).y2 := by
  show (Init.y2 X (at3 b p) : EReal) + Init.shift X (at3 b p) = _
  rw [y2_apply, shift_apply]
  rfl

/-- The area, at a cell. -/
theorem area_apply : Init.area X (at3 b p) = (Pure.box (det X b p)).ar := by
  show ((Init.ox2 X (at3 b p) : EReal) - Init.ox1 X (at3 b p)) * ((Init.oy2 X (at3 b p) : EReal) - Init.oy1 X (at3 b p)) = _
  rw [ox2_apply, ox1_apply, oy2_apply, oy1_apply]
  rfl

/-- The score, at a cell. -/
theorem score_apply : Init.score X (at3 b p) = Pure.score (det X b p) := by
  show Scalar.select (Ideal.cmp .ogt (col X 4 (at3 b p)) _) ((col X 4 (at3 b p) : EReal) * Init.best X 79 (at3 b p))
    (FloatOps.ofBits .f32 0xFF800000#32 : Ideal .f32) = _
  rw [col_apply, best_apply, low_eq]
  refine (select_gt (det X b p 4) (Ideal.ofBits .f32 0x3E800000#32) _ _).trans ?_
  unfold Pure.score Pure.Valid
  congr

/-- A whole array stored over a buffer is the array. -/
theorem same_eq (v : FVec Ideal S4x40x128 .f32) : Init.same v = v := by
  funext y
  exact shapeCast_apply v _ y y rfl

/-- The index plane numbers the cells row by row. -/
theorem ix_eq : plain (F := Ideal) (Init.geo X).ix = nums := by
  rw [plain_eq]
  funext p
  show shapeCast S40x128 k0_pay286 _ p = nums p
  refine (shapeCast_apply _ _ p p rfl).trans ?_
  show BitVec.ofNat 32 (0 * 40 + (p 0).val) * 128#32 + BitVec.ofNat 32 (0 * 128 + (p 1).val) = BitVec.ofNat 32 (num p)
  have := num_lt p
  apply BitVec.eq_of_toNat_eq
  simp only [num, BitVec.toNat_add, BitVec.toNat_mul, BitVec.toNat_ofNat] at this ⊢
  omega

end Cert.Proof.KI

end
-- ==== Proof.KI.Cell.lean ====
/-
  One trip in numbers: with the picked box known, the scores after the trip and the row written.
-/
module

public import proofs.«01_k».proof.Proof.KI.Det

@[expose] public section

noncomputable section

namespace Cert.Proof.KI

open Cert.KernelIdeal Cert.KernelIdeal.Gen
open Idealize.ShloMosaic Idealize.ShloMosaic.ValueIdx

section Plane

variable (a : BitVec 1) (m : Ideal .f32) (s x1 y1 x2 y2 ar bx1 by1 bx2 by2 cl : Vec Ideal S1x40x128 .f32) (q p : S40x128.Idx)

/-- The picked box, from the sums of the masked planes. -/
def picked : Pure.Box where
  x1 := take (k0_pay293 m nums s) x1
  y1 := take (k0_pay293 m nums s) y1
  x2 := take (k0_pay293 m nums s) x2
  y2 := take (k0_pay293 m nums s) y2
  ar := take (k0_pay293 m nums s) ar

/-- The box at a cell of slabs. -/
def boxOf : Pure.Box where
  x1 := x1 (ix3 0 (p 0) (p 1))
  y1 := y1 (ix3 0 (p 0) (p 1))
  x2 := x2 (ix3 0 (p 0) (p 1))
  y2 := y2 (ix3 0 (p 0) (p 1))
  ar := ar (ix3 0 (p 0) (p 1))

/-- The box at a cell, through the flattened slabs. -/
def boxDown : Pure.Box where
  x1 := shapeCast S40x128 x1 shapeCasts_S1x40x128_S40x128 p
  y1 := shapeCast S40x128 y1 shapeCasts_S1x40x128_S40x128 p
  x2 := shapeCast S40x128 x2 shapeCasts_S1x40x128_S40x128 p
  y2 := shapeCast S40x128 y2 shapeCasts_S1x40x128_S40x128 p
  ar := shapeCast S40x128 ar shapeCasts_S1x40x128_S40x128 p

/-- It is the box there. -/
theorem boxDown_eq : boxDown x1 y1 x2 y2 ar p = boxOf x1 y1 x2 y2 ar p := by
  unfold boxDown boxOf
  simp only [down_apply]

attribute [local irreducible] multiReduction multiReductionI shapeCast extractAt k0_pay293 in
/-- The scores after the trip, cell by cell. -/
theorem plane0_raw : plane0 a m nums s x1 y1 x2 y2 ar p
    = Scalar.select (Scalar.andi a (Scalar.ori (Ideal.cmp .ogt
        (Pure.iou (picked m s x1 y1 x2 y2 ar) (boxDown x1 y1 x2 y2 ar p)) (Ideal.ofBits .f32 0x3F000000#32)) (k0_pay293 m nums s p)))
      (FloatOps.ofBits .f32 0xFF800000#32 : Ideal .f32) (shapeCast S40x128 s shapeCasts_S1x40x128_S40x128 p) := by
  have z : (FloatOps.ofBits .f32 0x00000000#32 : Ideal .f32) = (0 : EReal) := Ideal.ofBits_zero_f32
  unfold Pure.iou Pure.inter
  rw [← z]
  unfold plane0 k0_pay301 k0_pay297 k0_pay298 k0_pay295 k0_pay299 k0_pay300 k0_pay294 k0_pay296 k0_pay292 picked boxDown take
  rfl

/-- The picked box is the box at the cell the mask is set at. -/
theorem picked_eq (h : ∀ p, k0_pay293 (F := Ideal) m nums s p = 1#1 ↔ p = q) :
    picked m s x1 y1 x2 y2 ar = boxOf x1 y1 x2 y2 ar q := by
  unfold picked boxOf
  simp only [take_eq _ _ q h]

/-- In an image with nothing to pick the scores stay. -/
theorem plane0_dead : plane0 0#1 m nums s x1 y1 x2 y2 ar p = s (ix3 0 (p 0) (p 1)) := by
  rw [plane0_raw, down_apply]
  have h : ∀ x : BitVec 1, Scalar.andi 0#1 x = 0#1 := fun x => BitVec.zero_and
  rw [h]
  rfl

open Classical in
/-- In an image with a box to pick, the boxes that overlap it lose their score, and so does it. -/
theorem plane0_alive (h : ∀ p, k0_pay293 (F := Ideal) m nums s p = 1#1 ↔ p = q) :
    plane0 1#1 m nums s x1 y1 x2 y2 ar p
      = if Pure.Over (boxOf x1 y1 x2 y2 ar q) (boxOf x1 y1 x2 y2 ar p) ∨ p = q then (⊥ : EReal) else s (ix3 0 (p 0) (p 1)) := by
  rw [plane0_raw, down_apply, picked_eq (h := h), boxDown_eq, low_eq]
  have e : Scalar.andi 1#1 (Scalar.ori (Ideal.cmp .ogt (Pure.iou (boxOf x1 y1 x2 y2 ar q) (boxOf x1 y1 x2 y2 ar p))
      (Ideal.ofBits .f32 0x3F000000#32)) (k0_pay293 (F := Ideal) m nums s p)) = 1#1
      ↔ Pure.Over (boxOf x1 y1 x2 y2 ar q) (boxOf x1 y1 x2 y2 ar p) ∨ p = q := by
    have k : ∀ u v : BitVec 1, Scalar.andi 1#1 (Scalar.ori u v) = 1#1 ↔ u = 1#1 ∨ v = 1#1 := by decide
    rw [k, h p]
    refine or_congr ?_ Iff.rfl
    unfold Pure.Over Ideal.cmp
    by_cases hc : Ideal.ofBits .f32 0x3F000000#32 < Pure.iou (boxOf x1 y1 x2 y2 ar q) (boxOf x1 y1 x2 y2 ar p)
    · simp [hc]
    · simp [hc]
  unfold Scalar.select
  exact if_congr e rfl rfl

/-- Six numbers put side by side, read at a place. -/
theorem six_apply (v : Fin 6 → Ideal .f32) (c : Fin 6) :
    shapeCast S1x1x6 (concatenate S1x6 1 [⟨S1x1, broadcast S1x1 (v 0)⟩, ⟨S1x1, broadcast S1x1 (v 1)⟩, ⟨S1x1, broadcast S1x1 (v 2)⟩,
      ⟨S1x1, broadcast S1x1 (v 3)⟩, ⟨S1x1, broadcast S1x1 (v 4)⟩, ⟨S1x1, broadcast S1x1 (v 5)⟩]
      concatenates_S1x1_S1x1_S1x1_S1x1_S1x1_S1x1_S1x6_d1) shapeCasts_S1x6_S1x1x6 (ix3 0 0 c) = v c := by
  rw [shapeCast_apply _ _ (ix3 0 0 c) (ix2 0 c) (by
    rw [Shape.rowMajor_val_two, Shape.rowMajor_val_three]
    rfl)]
  have e : [(⟨S1x1, broadcast S1x1 (v 0)⟩ : (s : Shape) × (s.Idx → Ideal .f32)), ⟨S1x1, broadcast S1x1 (v 1)⟩, ⟨S1x1, broadcast S1x1 (v 2)⟩,
      ⟨S1x1, broadcast S1x1 (v 3)⟩, ⟨S1x1, broadcast S1x1 (v 4)⟩, ⟨S1x1, broadcast S1x1 (v 5)⟩]
      = List.ofFn fun n : Fin 6 => (⟨S1x1, broadcast S1x1 (v n)⟩ : (s : Shape) × (s.Idx → Ideal .f32)) := rfl
  exact concatenate_ofFn_unit_apply (t := S1x6) (s₁ := S1x1) 1 (fun n : Fin 6 => broadcast S1x1 (v n))
    concatenates_S1x1_S1x1_S1x1_S1x1_S1x1_S1x1_S1x6_d1 rfl rfl (ix2 0 c) c rfl (ix2 0 0) (fun b hb => by
      match b with
      | ⟨0, _⟩ => rfl
      | ⟨1, _⟩ => exact absurd rfl hb)

attribute [local irreducible] multiReduction multiReductionI shapeCast extractAt k0_pay293 concatenate in
/-- The row, as six numbers. -/
theorem row0_raw : row0 m nums s bx1 by1 bx2 by2 cl
    = shapeCast S1x1x6 (concatenate S1x6 1 [⟨S1x1, broadcast S1x1 (take (k0_pay293 m nums s) bx1)⟩,
      ⟨S1x1, broadcast S1x1 (take (k0_pay293 m nums s) by1)⟩, ⟨S1x1, broadcast S1x1 (take (k0_pay293 m nums s) bx2)⟩,
      ⟨S1x1, broadcast S1x1 (take (k0_pay293 m nums s) by2)⟩, ⟨S1x1, broadcast S1x1 m⟩, ⟨S1x1, broadcast S1x1 (take (k0_pay293 m nums s) cl)⟩]
      concatenates_S1x1_S1x1_S1x1_S1x1_S1x1_S1x1_S1x6_d1) shapeCasts_S1x6_S1x1x6 := by
  unfold row0 k0_pay305 k0_pay303 k0_pay304 take
  rfl

/-- The row of the picked box: its corners, the highest score, its class. -/
theorem row0_apply (h : ∀ p, k0_pay293 (F := Ideal) m nums s p = 1#1 ↔ p = q) (c : Fin 6) :
    row0 m nums s bx1 by1 bx2 by2 cl (ix3 0 0 c)
      = (![bx1 (ix3 0 (q 0) (q 1)), by1 (ix3 0 (q 0) (q 1)), bx2 (ix3 0 (q 0) (q 1)), by2 (ix3 0 (q 0) (q 1)), m, cl (ix3 0 (q 0) (q 1))]
        : Fin 6 → Ideal .f32) c := by
  rw [row0_raw]
  refine (six_apply ![take (k0_pay293 m nums s) bx1, take (k0_pay293 m nums s) by1, take (k0_pay293 m nums s) bx2,
    take (k0_pay293 m nums s) by2, m, take (k0_pay293 m nums s) cl] c).trans ?_
  simp only [take_eq _ _ q h]

end Plane

section Trip

variable (X : Vec Ideal S4x85x40x128 .f32) (st : St Ideal) (b : Fin 4) (q p : S40x128.Idx)

/-- A cell of a slab is the cell of the image. -/
theorem slab_at (v : Vec Ideal S4x40x128 .f32) : slab v b (ix3 0 (p 0) (p 1)) = v (at3 b p) := slab_apply v b _

/-- The box at a cell of the geometry. -/
theorem boxOf_geo : boxOf (slab (Init.geo X).ox1 b) (slab (Init.geo X).oy1 b) (slab (Init.geo X).ox2 b) (slab (Init.geo X).oy2 b)
    (slab (Init.geo X).ar b) p = Pure.box (det X b p) := by
  unfold boxOf
  simp only [slab_at, Init.geo, same_eq, ox1_apply, oy1_apply, ox2_apply, oy2_apply, area_apply]

/-- The cell picked: it holds the highest score, and no cell before it does. -/
def IsPick : Prop := (st.s (at3 b q) : EReal) = st.m b ∧ ∀ p, (st.s (at3 b p) : EReal) = st.m b → num q ≤ num p

variable {st b q}

/-- The mask of the trip is set at the cell picked. -/
theorem IsPick.mask (h : IsPick st b q) (p : S40x128.Idx) : k0_pay293 (F := Ideal) (st.m b) nums (slab st.s b) p = 1#1 ↔ p = q :=
  mask_spec _ _ _ ((slab_at b q st.s).trans h.1) (fun p hp => h.2 p ((slab_at b p st.s).symm.trans hp)) p

/-- The new scores in an image with nothing to pick. -/
theorem plane_dead (ha : st.al b = 0#1) : st.plane (Init.geo X) b p = st.s (at3 b p) := by
  unfold St.plane
  rw [ha, ix_eq, plane0_dead, slab_at]

open Classical in
/-- The new scores in an image with a box picked. -/
theorem plane_alive (ha : st.al b = 1#1) (h : IsPick st b q) : st.plane (Init.geo X) b p
    = if Pure.Over (Pure.box (det X b q)) (Pure.box (det X b p)) ∨ p = q then (⊥ : EReal) else st.s (at3 b p) := by
  unfold St.plane
  rw [ha, ix_eq, plane0_alive (h := h.mask), boxOf_geo, boxOf_geo, slab_at]

/-- The row written for the box picked. -/
theorem row_alive (h : IsPick st b q) (hs : (st.m b : EReal) = Pure.score (det X b q)) (c : Fin 6) :
    st.row (Init.geo X) b (ix3 0 0 c) = Pure.row (det X b q) c := by
  unfold St.row
  rw [ix_eq, row0_apply (h := h.mask)]
  simp only [slab_at, Init.geo, same_eq, x1_apply, y1_apply, x2_apply, y2_apply, clsF_apply, Pure.row]
  rw [← hs]

end Trip

end Cert.Proof.KI

end
-- ==== Proof.Pure.Sort.lean ====
/-
  What a stable sort by a key does to positions: it lists every position once, greater keys first and equal keys in index order.
-/
module

public import Idealize.ShloMosaic.Lib.SortFacts
public import Idealize.ShloMosaic.Lib.IdealHost

@[expose] public section

open Idealize.ShloMosaic

namespace Cert.Proof.Pure

variable {κ : Type} [LinearOrder κ] {n : ℕ}

/-- Position `a` goes ahead of position `b`: a greater key, or the same key and a smaller index. -/
def Ahead (f : Fin n → κ) (a b : Fin n) : Prop := f b < f a ∨ f a = f b ∧ a < b

/-- What is ahead of a thing ahead of a third is ahead of the third. -/
theorem Ahead.trans {f : Fin n → κ} {a b c : Fin n} (h : Ahead f a b) (h' : Ahead f b c) : Ahead f a c := by
  rcases h with h | ⟨h, hl⟩ <;> rcases h' with h' | ⟨h', hl'⟩
  · exact Or.inl (h'.trans h)
  · exact Or.inl (h' ▸ h)
  · exact Or.inl (by rw [h]; exact h')
  · exact Or.inr ⟨h.trans h', hl.trans hl'⟩

/-- Nothing is ahead of itself. -/
theorem Ahead.irrefl {f : Fin n → κ} {a : Fin n} : ¬ Ahead f a a := by
  rintro (h | ⟨_, h⟩)
  · exact lt_irrefl _ h
  · exact lt_irrefl _ h

/-- Putting a position of least index into an ordered list keeps it ordered. -/
theorem ahead_insert (f : Fin n → κ) (before : Fin n → Fin n → Bool) (hb : ∀ a b, before a b = true ↔ f b < f a) (a : Fin n)
    (l : List (Fin n)) (hl : l.Pairwise (Ahead f)) (ha : ∀ b ∈ l, a < b) : (insertBefore before a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore before a l).mem_iff.mp hc) with rfl | hc'
      · exact Or.inl ((hb _ _).mp h)
      · exact hl.1 c hc'
    · rename_i h
      have hle : f b ≤ f a := not_lt.mp fun hlt => h ((hb _ _).mpr hlt)
      have hab : Ahead f a b := by
        rcases hle.lt_or_eq with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of a list in index order is ordered. -/
theorem ahead_stableSort (f : Fin n → κ) (before : Fin n → Fin n → Bool) (hb : ∀ a b, before a b = true ↔ f b < f a)
    (l : List (Fin n)) (hl : l.Pairwise (· < ·)) : (stableSort before l).Pairwise (Ahead f) := by
  induction l with
  | nil => exact List.Pairwise.nil
  | cons a l ih =>
    rw [List.pairwise_cons] at hl
    unfold stableSort
    exact ahead_insert f before hb a _ (ih hl.2) fun b h => hl.1 b ((perm_stableSort before l).mem_iff.mp h)

/-- An earlier place of the sorted list holds a position that goes ahead. -/
theorem ahead_sortedFrom (f : Fin n → κ) (before : Fin n → Fin n → Bool) (hb : ∀ a b, before a b = true ↔ f b < f a)
    (i j : Fin n) (hij : i < j) : Ahead f (sortedFrom before i) (sortedFrom before j) := by
  have hp := List.pairwise_iff_get.mp (ahead_stableSort f before hb (List.finRange n) (List.pairwise_lt_finRange n))
  unfold sortedFrom
  exact hp _ _ hij

/-- The place of a position in the sorted list is the number of positions that go ahead of it. -/
theorem card_ahead (f : Fin n → κ) (before : Fin n → Fin n → Bool) (hb : ∀ a b, before a b = true ↔ f b < f a) (i : Fin n)
    (S : Finset (Fin n)) (hS : ∀ p, p ∈ S ↔ Ahead f p (sortedFrom before i)) : S.card = i.val := by
  have : S = (Finset.univ.filter fun k : Fin n => k < i).image (sortedFrom before) := by
    ext p
    rw [hS]
    simp only [Finset.mem_image, Finset.mem_filter, Finset.mem_univ, true_and]
    constructor
    · intro h
      obtain ⟨k, rfl⟩ := sortedFrom_surjective before p
      refine ⟨k, ?_, rfl⟩
      rcases lt_trichotomy k i with hlt | heq | hlt
      · exact hlt
      · exact absurd (heq ▸ h) Ahead.irrefl
      · exact absurd (h.trans (ahead_sortedFrom f before hb i k hlt)) Ahead.irrefl
    · rintro ⟨k, hk, rfl⟩
      exact ahead_sortedFrom f before hb k i hk
  rw [this, Finset.card_image_of_injective _ (sortedFrom_injective before)]
  rw [show (Finset.univ.filter fun k : Fin n => k < i) = Finset.Iio i from by ext; simp, Fin.card_Iio]

end Cert.Proof.Pure

end
-- ==== Proof.Pure.Order.lean ====
/-
  The order the boxes of an image are dealt with: highest score first, of equal scores the first detection first.
-/
module

public import proofs.«01_k».proof.Proof.Pure.Spec
public import proofs.«01_k».proof.Proof.Pure.Sort

@[expose] public section

noncomputable section

namespace Cert.Proof.Pure

/-- The order lists every detection once, each ahead of those after it. -/
structure Ordered (D : Fin 5000 → Det) (σ : Fin 5000 → Fin 5000) : Prop where
  inj : Function.Injective σ
  surj : Function.Surjective σ
  ahead : ∀ i j, i < j → Ahead (fun i => score (D i)) (σ i) (σ j)

namespace Ordered

variable {D : Fin 5000 → Det} {σ : Fin 5000 → Fin 5000} (h : Ordered D σ)

include h in
/-- Scores do not go up along the order. -/
theorem le {p r : Fin 5000} (hpr : p ≤ r) : score (D (σ r)) ≤ score (D (σ p)) := by
  rcases lt_or_eq_of_le hpr with hlt | rfl
  · rcases h.ahead p r hlt with h' | h'
    · exact h'.le
    · exact h'.1.ge
  · exact le_rfl

include h in
/-- What has a score stands before what has none. -/
theorem scored (p r : Fin 5000) (hpr : p.val ≤ r.val) (hr : Scored D σ r) : Scored D σ p :=
  lt_of_lt_of_le hr (h.le hpr)

include h in
/-- Of equal scores, the first detection comes first. -/
theorem first {p r : Fin 5000} (hpr : p ≤ r) (he : score (D (σ r)) = score (D (σ p))) : (σ p).val ≤ (σ r).val := by
  rcases lt_or_eq_of_le hpr with hlt | rfl
  · rcases h.ahead p r hlt with h' | h'
    · exact absurd h' he.not_lt
    · exact Nat.le_of_lt h'.2
  · exact le_rfl

end Ordered

/-- A detection with a score is valid. -/
theorem valid_of_score {d : Det} (h : ⊥ < score d) : Valid d := by
  by_contra hc
  unfold score at h
  rw [if_neg hc] at h
  exact lt_irrefl _ h

end Cert.Proof.Pure

end
-- ==== Proof.KI.Image.lean ====
/-
  The loop in numbers: what the counts, scores and output of one image are after any number of trips.

  With the boxes of an image in order, a trip deals with the next box still standing: it writes its row after the rows of the
  boxes kept before it, and the boxes it overlaps lose their score. So at any time the boxes up to some position are dealt
  with, the rows written are those of the boxes kept among them, and the scores are those of the boxes still standing.
-/
module

public import proofs.«01_k».proof.Proof.KI.Cell
public import proofs.«01_k».proof.Proof.KI.Loop
public import proofs.«01_k».proof.Proof.Pure.Order

@[expose] public section

noncomputable section

namespace Cert.Proof.KI

open Cert.KernelIdeal Cert.KernelIdeal.Gen
open Idealize.ShloMosaic Idealize.ShloMosaic.ValueIdx
open Cert.Proof.Pure (Scored Out Strikes Live Kept rank Ordered)

/-- The cell a detection is kept in. -/
def cell (i : Fin 5000) : S40x128.Idx :=
  ix2 ⟨i.val / 128, by have := i.isLt; omega⟩ ⟨i.val % 128, Nat.mod_lt _ (by norm_num)⟩

/-- The cell of a detection has its number. -/
theorem num_cell (i : Fin 5000) : num (cell i) = i.val := Nat.div_add_mod' i.val 128

/-- A cell before the padding is that of a detection. -/
theorem cell_num (p : S40x128.Idx) (h : num p < 5000) : p = cell ⟨num p, h⟩ := num_inj (num_cell ⟨num p, h⟩).symm

/-- Different detections are in different cells. -/
theorem cell_inj {i j : Fin 5000} (h : cell i = cell j) : i = j := Fin.ext (by rw [← num_cell i, ← num_cell j, h])

variable (X : Vec Ideal S4x85x40x128 .f32) (b : Fin 4)

/-- The detections of an image. -/
def dets : Fin 5000 → Pure.Det := fun i => det X b (cell i)

variable (σ : Fin 5000 → Fin 5000)

open Classical in
/-- The boxes up to position `t` are dealt with. -/
structure Dealt (st : St Ideal) (t : ℕ) : Prop where
  cnt : (st.cnt b).toNat = rank (Scored (dets X b) σ) (Out (dets X b) σ) (Strikes (dets X b) σ) t
  top_le : ∀ p, (st.s (at3 b p) : EReal) ≤ st.m b
  top_at : (∃ p, (st.m b : EReal) = st.s (at3 b p)) ∨ (st.m b : EReal) = ⊥
  score : ∀ i, (st.s (at3 b (cell (σ i))) : EReal)
    = if Live (Scored (dets X b) σ) (Out (dets X b) σ) (Strikes (dets X b) σ) t i then Pure.score (dets X b (σ i)) else ⊥
  pad : ∀ p, 5000 ≤ num p → (st.s (at3 b p) : EReal) = ⊥
  row : ∀ (j : Fin 300) q, Kept (Scored (dets X b) σ) (Out (dets X b) σ) (Strikes (dets X b) σ) q → q.val < t →
    rank (Scored (dets X b) σ) (Out (dets X b) σ) (Strikes (dets X b) σ) q.val = j.val → ∀ c, st.o (ix3 b j c) = Pure.row (dets X b (σ q)) c
  zero : ∀ j : Fin 300, (∀ q, Kept (Scored (dets X b) σ) (Out (dets X b) σ) (Strikes (dets X b) σ) q → q.val < t →
    rank (Scored (dets X b) σ) (Out (dets X b) σ) (Strikes (dets X b) σ) q.val ≠ j.val) → ∀ c, st.o (ix3 b j c) = (0 : EReal)

variable {X b σ} {st : St Ideal} {t : ℕ}

/-- The scores a trip stores. -/
theorem step_s (p : S40x128.Idx) : (st.step (Init.geo X)).s (at3 b p) = st.plane (Init.geo X) b p := by
  show St.slabNew _ st b (ix3 (n0 := 1) 0 (p 0) (p 1)) = _
  unfold St.slabNew
  rw [up_apply]
  exact congrArg _ (cell_eq p)

/-- The highest score a trip leaves. -/
theorem step_top : (∀ p, ((st.step (Init.geo X)).s (at3 b p) : EReal) ≤ (st.step (Init.geo X)).m b)
    ∧ ((∃ p, ((st.step (Init.geo X)).m b : EReal) = (st.step (Init.geo X)).s (at3 b p)) ∨ ((st.step (Init.geo X)).m b : EReal) = ⊥) := by
  have h := top_spec (st.plane (Init.geo X) b)
  simp only [step_s, St.step_m]
  exact h

/-- A trip leaves an image with nothing to pick as it is. -/
theorem Dealt.dead (h : Dealt X b σ st t) (ha : st.al b = 0#1) : Dealt X b σ (st.step (Init.geo X)) t where
  cnt := by rw [St.step_cnt_dead _ _ _ ha]; exact h.cnt
  top_le := step_top.1
  top_at := step_top.2
  score i := by rw [step_s, plane_dead _ _ ha]; exact h.score i
  pad p hp := by rw [step_s, plane_dead _ _ ha]; exact h.pad p hp
  row j q hq ht hr c := (if_neg fun hc => absurd (ha.symm.trans hc.1) (by decide)).trans (h.row j q hq ht hr c)
  zero j hj c := (if_neg fun hc => absurd (ha.symm.trans hc.1) (by decide)).trans (h.zero j hj c)

/-- An image with a box to pick has a highest score. -/
theorem top_of_alive (ha : st.al b = 1#1) : (⊥ : EReal) < st.m b := by
  unfold St.al alive at ha
  have h2 : ∀ u v : BitVec 1, Scalar.andi u v = 1#1 → v = 1#1 := by decide
  have := h2 _ _ ha
  change Ideal.cmp .ogt (st.m b) (FloatOps.ofBits .f32 0xFF800000#32 : Ideal .f32) = 1#1 at this
  rw [low_eq] at this
  by_contra hc
  simp [Ideal.cmp, hc] at this

/-- With a box to pick, the next box standing holds the highest score, and is the first to. -/
theorem Dealt.next (hσ : Ordered (dets X b) σ) (h : Dealt X b σ st t) (ha : st.al b = 1#1) :
    ∃ q, Live (Scored (dets X b) σ) (Out (dets X b) σ) (Strikes (dets X b) σ) t q
      ∧ (∀ p, Live (Scored (dets X b) σ) (Out (dets X b) σ) (Strikes (dets X b) σ) t p → q.val ≤ p.val)
      ∧ IsPick st b (cell (σ q)) ∧ (st.m b : EReal) = Pure.score (dets X b (σ q)) := by
  classical
  have hm := top_of_alive ha
  have back : ∀ p, (st.s (at3 b p) : EReal) = st.m b → ∃ k, p = cell (σ k)
      ∧ Live (Scored (dets X b) σ) (Out (dets X b) σ) (Strikes (dets X b) σ) t k ∧ (st.m b : EReal) = Pure.score (dets X b (σ k)) := by
    intro p hp
    have hn : num p < 5000 := by
      by_contra hc
      rw [h.pad p (by omega)] at hp
      exact absurd hm (by rw [← hp]; exact lt_irrefl _)
    obtain ⟨k, hk⟩ := hσ.surj ⟨num p, hn⟩
    have e : p = cell (σ k) := by rw [hk]; exact cell_num p hn
    refine ⟨k, e, ?_⟩
    have hs := h.score k
    rw [← e, hp] at hs
    by_cases hl : Live (Scored (dets X b) σ) (Out (dets X b) σ) (Strikes (dets X b) σ) t k
    · rw [if_pos hl] at hs; exact ⟨hl, hs⟩
    · rw [if_neg hl] at hs; exact absurd hm (by rw [hs]; exact lt_irrefl _)
  obtain ⟨p0, hp0⟩ : ∃ p, (st.m b : EReal) = st.s (at3 b p) := h.top_at.resolve_right hm.ne'
  obtain ⟨k, -, hk, hks⟩ := back p0 hp0.symm
  obtain ⟨q, hq, hmin⟩ := Finset.exists_min_image (Finset.univ.filter fun p =>
    Live (Scored (dets X b) σ) (Out (dets X b) σ) (Strikes (dets X b) σ) t p) (fun p => p.val) ⟨k, by simpa using hk⟩
  simp only [Finset.mem_filter, Finset.mem_univ, true_and] at hq hmin
  have hsq : (st.s (at3 b (cell (σ q))) : EReal) = Pure.score (dets X b (σ q)) := (h.score q).trans (if_pos hq)
  have hmq : (st.m b : EReal) = Pure.score (dets X b (σ q)) :=
    le_antisymm (hks.le.trans (hσ.le (hmin k hk))) (hsq.symm.le.trans (h.top_le _))
  refine ⟨q, hq, hmin, ⟨hsq.trans hmq.symm, fun p hp => ?_⟩, hmq⟩
  obtain ⟨k', rfl, hk', hs'⟩ := back p hp
  rw [num_cell, num_cell]
  exact hσ.first (hmin k' hk') (hs'.symm.trans hmq)

/-- A trip deals with the next box. -/
theorem Dealt.alive (hσ : Ordered (dets X b) σ) (h : Dealt X b σ st t) (hok : st.Ok) (ha : st.al b = 1#1) :
    ∃ t', Dealt X b σ (st.step (Init.geo X)) t' := by
  classical
  obtain ⟨q, hq, hmin, hp, hm⟩ := h.next hσ ha
  obtain ⟨hk, hr0, hr1, hsplit, hlive⟩ := Pure.Nms.next_some hq hmin hσ.scored
  have hc := St.step_cnt_alive (Init.geo X) st hok b ha
  refine ⟨q.val + 1, ?_, step_top.1, step_top.2, fun i => ?_, fun p hpad => ?_, fun j r hr hlt hj c => ?_, fun j hj c => ?_⟩
  · rw [hc.1, h.cnt, hr1]
  · rw [step_s, plane_alive X _ ha hp, h.score i]
    have e : Pure.Over (Pure.box (det X b (cell (σ q)))) (Pure.box (det X b (cell (σ i)))) ∨ cell (σ i) = cell (σ q)
        ↔ Strikes (dets X b) σ q i ∨ i = q := or_congr Iff.rfl ⟨fun h => hσ.inj (cell_inj h), fun h => by rw [h]⟩
    by_cases hx : Strikes (dets X b) σ q i ∨ i = q
    · rw [if_pos (e.mpr hx), if_neg fun hl => ?_]
      have := (hlive i).mp hl
      exact hx.elim this.2.2 this.2.1
    · rw [if_neg fun h => hx (e.mp h)]
      refine if_congr ?_ rfl rfl
      rw [hlive i]
      exact ⟨fun hl => ⟨hl, fun he => hx (.inr he), fun hs => hx (.inl hs)⟩, fun hl => hl.1⟩
  · rw [step_s, plane_alive X _ ha hp, h.pad p hpad, ite_self]
  · show (if st.al b = 1#1 ∧ j.val = (st.cnt b).toNat then st.row (Init.geo X) b (ix3 (n0 := 1) (n1 := 1) 0 0 c) else st.o (ix3 b j c)) = _
    rcases hsplit r hr hlt with hlt' | rfl
    · have := Pure.rank_lt hr hlt'
      rw [if_neg fun hx => ?_]
      · exact h.row j r hr hlt' hj c
      · have := hx.2; rw [h.cnt] at this; omega
    · rw [if_pos ⟨ha, by rw [h.cnt, ← hj, hr0]⟩]
      exact row_alive X hp hm c
  · show (if st.al b = 1#1 ∧ j.val = (st.cnt b).toNat then st.row (Init.geo X) b (ix3 (n0 := 1) (n1 := 1) 0 0 c) else st.o (ix3 b j c)) = _
    rw [if_neg fun hx => hj q hk (Nat.lt_succ_self _) (by rw [hr0, ← h.cnt, hx.2])]
    exact h.zero j (fun r hr hlt => hj r hr (by have := hq.1; omega)) c

/-- A trip keeps the image dealt with up to some position. -/
theorem Dealt.step (hσ : Ordered (dets X b) σ) (hok : st.Ok) (h : ∃ t, Dealt X b σ st t) : ∃ t, Dealt X b σ (st.step (Init.geo X)) t := by
  obtain ⟨t, h⟩ := h
  rcases bit_cases (st.al b) with ha | ha
  · exact ⟨t, h.dead ha⟩
  · exact h.alive hσ hok ha

/-- With nothing left to pick the rows of the image are those of its table. -/
theorem Dealt.done (h : Dealt X b σ st t) (hok : st.Ok) (ha : st.al b ≠ 1#1) (j : Fin 300) :
    Pure.IsRow (dets X b) σ j.val fun c => st.o (ix3 b j c) := by
  classical
  have hlt : ∀ q, Kept (Scored (dets X b) σ) (Out (dets X b) σ) (Strikes (dets X b) σ) q →
      rank (Scored (dets X b) σ) (Out (dets X b) σ) (Strikes (dets X b) σ) q.val = j.val → q.val < t := by
    intro q hq hr
    by_cases hm : (⊥ : EReal) < st.m b
    · have hc : (st.cnt b).toNat = 300 := by
        have h2 : ∀ u v : BitVec 1, v = 1#1 → Scalar.andi u v ≠ 1#1 → u ≠ 1#1 := by decide
        have := h2 _ _ (by
          show Ideal.cmp .ogt (st.m b) (FloatOps.ofBits .f32 0xFF800000#32 : Ideal .f32) = 1#1
          rw [low_eq]
          simp [Ideal.cmp, hm]) ha
        by_contra hne
        have hok' := hok b
        apply this
        show BitVec.ofBool ((st.cnt b).slt 300#32) = 1#1
        have : (st.cnt b).slt 300#32 = true := by
          rw [BitVec.slt_iff_toInt_lt, BitVec.toInt_eq_toNat_of_lt (by omega)]
          have : (300#32 : BitVec 32).toInt = 300 := by decide
          omega
        rw [this]; rfl
      by_contra hge
      have := Pure.rank_mono (L := Scored (dets X b) σ) (init := Out (dets X b) σ) (K := Strikes (dets X b) σ) (Nat.not_lt.mp hge)
      have hj := j.isLt
      have := h.cnt
      omega
    · refine Pure.Nms.next_none (fun p hp => hm ?_) q hq
      refine lt_of_lt_of_le ?_ (h.top_le (cell (σ p)))
      rw [h.score p, if_pos hp]
      exact hp.2.1
  refine ⟨fun q hq hr => funext fun c => h.row j q hq (hlt q hq hr) hr c, fun hj => funext fun c => h.zero j (fun q hq _ => hj q hq) c⟩

end Cert.Proof.KI

end
-- ==== Proof.KI.Out.lean ====
/-
  What the kernel leaves in its output: every image's table.
-/
module

public import proofs.«01_k».proof.Proof.KI.Image

@[expose] public section

noncomputable section

namespace Cert.Proof.KI

open Cert.KernelIdeal Cert.KernelIdeal.Gen
open Idealize.ShloMosaic Idealize.ShloMosaic.ValueIdx
open Cert.Proof.Pure (Scored Out Strikes Live Kept rank Ordered)

variable {X : Vec Ideal S4x85x40x128 .f32} {b : Fin 4} {σ : Fin 5000 → Fin 5000}

attribute [local irreducible] multiReduction shapeCast extractAt in
/-- The highest score of a slab is that of its plane. -/
theorem top_slab (v : Vec Ideal S1x40x128 .f32) :
    k0_pay1 (F := Ideal) v = k0_pay306 (F := Ideal) (shapeCast S40x128 v shapeCasts_S1x40x128_S40x128) := rfl

/-- Before the first trip no box is dealt with. -/
theorem Dealt.start (hpad : ∀ p, 5000 ≤ num p → Pure.score (det X b p) = ⊥) : Dealt X b σ (Init.st X) 0 := by
  classical
  have hs : ∀ p, ((Init.st X).s (at3 b p) : EReal) = Pure.score (det X b p) := fun p => by
    show Init.same (Init.score X) (at3 b p) = _
    rw [same_eq, score_apply]
  have hv : ∀ p, shapeCast S40x128 (slab (Init.st X).s b) shapeCasts_S1x40x128_S40x128 p = (Init.st X).s (at3 b p) := fun p => by
    rw [down_apply, slab_at]
  have ht := top_spec (shapeCast S40x128 (slab (Init.st X).s b) shapeCasts_S1x40x128_S40x128)
  have hm : (Init.st X).m b = k0_pay1 (slab (Init.st X).s b) := by simp only [Init.st]
  rw [← top_slab, ← hm] at ht
  simp only [hv] at ht
  refine ⟨Pure.rank_zero.symm, ht.1, ht.2, fun i => (hs _).trans ?_, fun p hp => (hs p).trans (hpad p hp),
    fun j q _ h => absurd h (Nat.not_lt_zero _), fun j _ c => Ideal.ofBits_zero_f32⟩
  by_cases hl : Live (Scored (dets X b) σ) (Out (dets X b) σ) (Strikes (dets X b) σ) 0 i
  · rw [if_pos hl]; rfl
  · rw [if_neg hl]
    by_contra hne
    have hb : ⊥ < Pure.score (dets X b (σ i)) := bot_lt_iff_ne_bot.mpr hne
    exact hl ⟨Nat.zero_le _, hb, fun hv => hv (Pure.valid_of_score hb)⟩

/-- After enough trips no image has a box to pick. -/
theorem run_over (g : Geo Ideal) (k : ℕ) : ∀ st : St Ideal, st.Ok → st.room ≤ k → (St.run g k st).go ≠ 1#1 := by
  induction k with
  | zero =>
    intro st hok hr hgo
    have := St.step_room g st hok hgo
    omega
  | succ k ih =>
    intro st hok hr
    by_cases hgo : st.go = 1#1
    · rw [St.run_go g st hgo]
      have := St.step_room g st hok hgo
      exact ih _ (St.step_ok g st hok) (by omega)
    · rw [St.run_stop g st hgo]; exact hgo

/-- After any number of trips the image is dealt with up to some position. -/
theorem run_dealt (hσ : Ordered (dets X b) σ) (k : ℕ) : ∀ st : St Ideal, st.Ok → (∃ t, Dealt X b σ st t) →
    (St.run (Init.geo X) k st).Ok ∧ ∃ t, Dealt X b σ (St.run (Init.geo X) k st) t := by
  induction k with
  | zero => exact fun st hok h => ⟨hok, h⟩
  | succ k ih =>
    intro st hok h
    by_cases hgo : st.go = 1#1
    · rw [St.run_go _ st hgo]
      exact ih _ (St.step_ok _ st hok) (Dealt.step hσ hok h)
    · rw [St.run_stop _ st hgo]; exact ⟨hok, h⟩

/-- The loop goes on when an image has a box to pick. -/
theorem go_of_al (st : St Ideal) (b : Fin 4) (ha : st.al b = 1#1) : st.go = 1#1 := by
  refine (St.go_iff st).mpr ?_
  match b, ha with
  | 0, ha => exact .inl ha
  | 1, ha => exact .inr (.inl ha)
  | 2, ha => exact .inr (.inr (.inl ha))
  | 3, ha => exact .inr (.inr (.inr ha))

/-- The rows the kernel leaves for an image are those of its table. -/
theorem run_row (hpad : ∀ p, 5000 ≤ num p → Pure.score (det X b p) = ⊥) (hσ : Ordered (dets X b) σ) (j : Fin 300) :
    Pure.IsRow (dets X b) σ j.val fun c => (St.run (Init.geo X) 1200 (Init.st X)).o (ix3 b j c) := by
  have hc : ∀ b, (Init.st X).cnt b = 0#32 := fun b => by simp only [Init.st]
  have hok : (Init.st X).Ok := fun b => by rw [hc b]; decide
  have hroom : (Init.st X).room ≤ 1200 := by
    unfold St.room
    omega
  obtain ⟨hok', t, h⟩ := run_dealt hσ 1200 (Init.st X) hok ⟨0, Dealt.start hpad⟩
  refine h.done hok' (fun ha => run_over (Init.geo X) 1200 (Init.st X) hok hroom ?_) j
  exact go_of_al _ b ha

end Cert.Proof.KI

end
-- ==== Proof.KI.Input.lean ====
/-
  The kernel's input: every detection of the argument at its cell, and zeros in the cells after the last.
-/
module

public import proofs.«01_k».proof.Proof.KI.Run
public import proofs.«01_k».proof.Proof.KI.Image
public import Idealize.ShloMosaic.Lib.KernelVsHost
public import Idealize.ShloMosaic.Lib.StableHlo.RunRead

@[expose] public section

noncomputable section

namespace Cert.Proof.KI

open Cert.KernelIdeal Cert.KernelIdeal.Gen
open Idealize.ShloMosaic Idealize.ShloMosaic.ValueIdx
open Idealize.ShloMosaic.TcCoe

/-- The kernel's input, from the argument. -/
def layout (x : Vec Ideal S4x5000x85 .f32) : Vec Ideal S4x85x40x128 .f32 :=
  shapeCast S4x85x40x128 (transpose S4x85x5120 [0, 2, 1] (pad S4x5120x85 ![0, 0, 0] ![0, 120, 0] ![0, 0, 0] x
    (sitofp .f32 (constantI S_ 32 0#32) : FVec Ideal S_ .f32) pads_S4x5000x85_S4x5120x85_000_01200_000 h_S_)
    transposes_S4x5120x85_S4x85x5120_0_2_1) shapeCasts_S4x85x5120_S4x85x40x128

/-- The host operations before the launch compute it. -/
theorem inp_eq (m : (ℓ : Loc nD τ sig) → Buf (Elt Ideal) ℓ) (c : Dev nD) : inp m c = layout (m ((c : Thread nD τ).loc main_arg0)) := by
  unfold inp V opss layout
  simp only [List.flatten_cons, List.flatten_nil, List.append_nil, List.cons_append, List.nil_append]
  after_results
  rfl

variable (x : Vec Ideal S4x5000x85 .f32) (b : Fin 4) (k : Fin 85) (p : S40x128.Idx)

/-- The input at a cell, from the padded argument. -/
theorem layout_pad : layout x (ix4 b k (p 0) (p 1)) = pad S4x5120x85 ![0, 0, 0] ![0, 120, 0] ![0, 0, 0] x
    (sitofp .f32 (constantI S_ 32 0#32) : FVec Ideal S_ .f32) pads_S4x5000x85_S4x5120x85_000_01200_000 h_S_ (ix3 b ⟨num p, num_lt p⟩ k) := by
  unfold layout
  refine (shapeCast_apply (t := S4x85x40x128) (s := S4x85x5120) _ _ _ (ix3 b k ⟨num p, num_lt p⟩) (by
    rw [Shape.rowMajor_val_three, Shape.rowMajor_val_four]
    show (b.val * 85 + k.val) * 5120 + num p = ((b.val * 85 + k.val) * 40 + (p 0).val) * 128 + (p 1).val
    unfold num
    omega)).trans ?_
  refine transpose_apply _ _ _ _ (ix3 b ⟨num p, num_lt p⟩ k) fun a => ?_
  match a with
  | ⟨0, _⟩ => rfl
  | ⟨1, _⟩ => rfl
  | ⟨2, _⟩ => rfl

/-- The input at the cell of a detection. -/
theorem layout_cell (i : Fin 5000) : layout x (ix4 b k (cell i 0) (cell i 1)) = x (ix3 b i k) := by
  rw [layout_pad]
  refine pad_apply_of_inside _ _ _ x _ _ _ _ (ix3 b i k) fun a => ?_
  match a with
  | ⟨0, _⟩ => show b.val = 0 + b.val * (0 + 1); omega
  | ⟨1, _⟩ => show num (cell i) = 0 + i.val * (0 + 1); rw [num_cell]; omega
  | ⟨2, _⟩ => show k.val = 0 + k.val * (0 + 1); omega

/-- The input at a cell after the last detection. -/
theorem layout_rest (h : 5000 ≤ num p) : layout x (ix4 b k (p 0) (p 1)) = (0 : EReal) := by
  rw [layout_pad]
  refine (pad_apply_of_not_inside _ _ _ x _ _ _ _ 1 fun hc => ?_).trans ?_
  · have := hc.2.2
    change (num p - 0) / (0 + 1) < 5000 at this
    omega
  · show (((0#32 : BitVec 32).toInt : ℝ) : EReal) = 0
    simp

/-- The detections of an image, from the argument. -/
theorem dets_eq : dets (layout x) b = fun i k => x (ix3 b i k) := by
  funext i k
  exact layout_cell x b k i

/-- The cells after the last detection have no score. -/
theorem score_rest (h : 5000 ≤ num p) : Pure.score (det (layout x) b p) = ⊥ := by
  classical
  unfold Pure.score
  refine if_neg fun hv => ?_
  unfold Pure.Valid at hv
  rw [show det (layout x) b p 4 = (0 : EReal) from layout_rest x b 4 p h] at hv
  have : (0 : EReal) ≤ Ideal.ofBits .f32 0x3E800000#32 := by
    have e : Ideal.ofBits .f32 0x3E800000#32 = ((1 / 4 : ℝ) : EReal) := by
      simp [Ideal.ofBits, Ideal.ieee, -EReal.coe_mul]; norm_num
    rw [e]
    exact EReal.coe_nonneg.mpr (by norm_num)
  exact absurd hv this.not_gt

end Cert.Proof.KI

end
-- ==== Proof.RI.Reads.lean ====
/-
  What the stretches of the reference before its loop leave in the buffers read later, as functions of what they read.
-/
module

public import proofs.«01_k».proof.Proof.Gen.ReferenceIdeal.Run
public import Idealize.ShloMosaic.Lib.IdealHost

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo

/-- The contents of every buffer, floats being numbers. -/
abbrev Vals := Valuation τ sig (Elt Ideal)

/-- Attribute `k` of the first four, of every detection. -/
def attr4 (x : FVec Ideal S4x5000x85 .f32) (k : ℕ) (h : S4x5000x4.Slices ![0, 0, k] S4x5000x1) : FVec Ideal S4x5000 .f32 :=
  shapeCast S4x5000 (extractStridedSlice S4x5000x1 ![0, 0, k] (extractStridedSlice S4x5000x4 ![0, 0, 0] x slices_S4x5000x85_S4x5000x4_0_0_0) h)
    shapeCasts_S4x5000x1_S4x5000

/-- Half of an array. -/
def halve (v : FVec Ideal S4x5000 .f32) : FVec Ideal S4x5000 .f32 :=
  Host.divf v (broadcastInDim S4x5000 ![] bcast_S_S4x5000 (constant S_ .f32 0x40000000#32))

/-- An array as a column. -/
def column (v : FVec Ideal S4x5000 .f32) : FVec Ideal S4x5000x1 .f32 := broadcastInDim S4x5000x1 ![0, 1] bcast_S4x5000_S4x5000x1_0_1 v

/-- The objectness. -/
def objOf (x : FVec Ideal S4x5000x85 .f32) : FVec Ideal S4x5000 .f32 :=
  shapeCast S4x5000 (extractStridedSlice S4x5000x1 ![0, 0, 4] x slices_S4x5000x85_S4x5000x1_0_0_4) shapeCasts_S4x5000x1_S4x5000

/-- Whether the objectness is above the threshold. -/
def validOf (x : FVec Ideal S4x5000x85 .f32) : IVec S4x5000 1 :=
  cmpf .ogt (objOf x) (broadcastInDim S4x5000 ![] bcast_S_S4x5000 (constant S_ .f32 0x3E800000#32))

/-- Four columns side by side. -/
def fourOf (a b c d : FVec Ideal S4x5000 .f32) : FVec Ideal S4x5000x4 .f32 :=
  concatenate S4x5000x4 2 [⟨S4x5000x1, column a⟩, ⟨S4x5000x1, column b⟩, ⟨S4x5000x1, column c⟩, ⟨S4x5000x1, column d⟩]
    concatenates_S4x5000x1_S4x5000x1_S4x5000x1_S4x5000x1_S4x5000x4_d2

/-- The corners of the boxes. -/
def boxesOf (x : FVec Ideal S4x5000x85 .f32) : FVec Ideal S4x5000x4 .f32 :=
  fourOf (subf (attr4 x 0 slices_S4x5000x4_S4x5000x1_0_0_0) (halve (attr4 x 2 slices_S4x5000x4_S4x5000x1_0_0_2)))
    (subf (attr4 x 1 slices_S4x5000x4_S4x5000x1_0_0_1) (halve (attr4 x 3 slices_S4x5000x4_S4x5000x1_0_0_3)))
    (addf (attr4 x 0 slices_S4x5000x4_S4x5000x1_0_0_0) (halve (attr4 x 2 slices_S4x5000x4_S4x5000x1_0_0_2)))
    (addf (attr4 x 1 slices_S4x5000x4_S4x5000x1_0_0_1) (halve (attr4 x 3 slices_S4x5000x4_S4x5000x1_0_0_3)))

/-- The confidences in the classes. -/
def confOf (x : FVec Ideal S4x5000x85 .f32) : FVec Ideal S4x5000x80 .f32 :=
  extractStridedSlice S4x5000x80 ![0, 0, 5] x slices_S4x5000x85_S4x5000x80_0_0_5

/-- The highest confidence. -/
def topOf (y : FVec Ideal S4x5000x80 .f32) : FVec Ideal S4x5000 .f32 :=
  Host.reduce FloatOps.maximumf y (constant S_ .f32 0xFF800000#32) reducesTo_S4x5000x80_S4x5000_d2 h_S_

/-- The first class of highest confidence. -/
def classOf (y : FVec Ideal S4x5000x80 .f32) : IVec S4x5000 32 := fun j =>
  (Host.argReduce reducer_argmax_f32_i32 y (iotaInDim S4x5000x80 32 2) (constant S_ .f32 0xFF800000#32) (constantI S_ 32 0#32)
    reducesTo_S4x5000x80_S4x5000_d2 h_S_ j).2

/-- One number at every detection. -/
def everywhere (s : FVec Ideal S_ .f32) : FVec Ideal S4x5000 .f32 :=
  broadcastInDim S4x5000 ![1] bcast_S5000_S4x5000_1 (broadcastInDim S5000 ![] bcast_S_S5000 (id s))

/-- The numbers of the detections, in every image. -/
def places : IVec S4x5000 32 := broadcastInDim S4x5000 ![1] bcast_S5000_S4x5000_1 (iotaInDim S5000 32 0)

/-- The sorting order. -/
def orderOf (v : FVec Ideal S4x5000 .f32) : IVec S4x5000 32 := (Host.sort2 S4x5000 1 comparator_f32_i32_d1 v places).2

/-- Indices, negative ones counted from the end, as a column. -/
def rowsOf (v : IVec S4x5000 32) : IVec S4x5000x1 32 :=
  broadcastInDim S4x5000x1 ![0, 1] bcast_S4x5000_S4x5000x1_0_1
    (select (cmpi .slt v (broadcastInDim S4x5000 ![] bcast_S_S4x5000 (constantI S_ 32 0#32)))
      (addi v (broadcastInDim S4x5000 ![] bcast_S_S4x5000 (constantI S_ 32 5000#32))) v)

/-- The boxes moved by their class. -/
def movedOf (b : FVec Ideal S4x5000x4 .f32) (k : FVec Ideal S4x5000 .f32) : FVec Ideal S4x5000x4 .f32 :=
  addf b (broadcastInDim S4x5000x4 ![0, 1, 2] bcast_S4x5000x1_S4x5000x4_0_1_2
    (mulf (column k) (broadcastInDim S4x5000x1 ![] bcast_S_S4x5000x1 (constant S_ .f32 0x45F00000#32))))

/-- One corner coordinate of the boxes. -/
def sideOf (b : FVec Ideal S4x5000x4 .f32) (k : ℕ) (h : S4x5000x4.Slices ![0, 0, k] S4x5000x1) : FVec Ideal S4x5000 .f32 :=
  shapeCast S4x5000 (extractStridedSlice S4x5000x1 ![0, 0, k] b h) shapeCasts_S4x5000x1_S4x5000

/-- The areas of the boxes. -/
def areaOf (b : FVec Ideal S4x5000x4 .f32) : FVec Ideal S4x5000 .f32 :=
  mulf (subf (sideOf b 2 slices_S4x5000x4_S4x5000x1_0_0_2) (sideOf b 0 slices_S4x5000x4_S4x5000x1_0_0_0))
    (subf (sideOf b 3 slices_S4x5000x4_S4x5000x1_0_0_3) (sideOf b 1 slices_S4x5000x4_S4x5000x1_0_0_1))

/-- A pair of coordinates, of the first box of two. -/
def firstOf (v : FVec Ideal S4x5000x2 .f32) : FVec Ideal S4x5000x5000x2 .f32 :=
  broadcastInDim S4x5000x5000x2 ![0, 1, 2, 3] bcast_S4x5000x1x2_S4x5000x5000x2_0_1_2_3
    (broadcastInDim S4x5000x1x2 ![0, 1, 3] bcast_S4x5000x2_S4x5000x1x2_0_1_3 v)

/-- A pair of coordinates, of the second box of two. -/
def secondOf (v : FVec Ideal S4x5000x2 .f32) : FVec Ideal S4x5000x5000x2 .f32 :=
  broadcastInDim S4x5000x5000x2 ![0, 1, 2, 3] bcast_S4x1x5000x2_S4x5000x5000x2_0_1_2_3
    (broadcastInDim S4x1x5000x2 ![0, 2, 3] bcast_S4x5000x2_S4x1x5000x2_0_2_3 v)

/-- The signed sides of the intersections. -/
def overlapOf (b : FVec Ideal S4x5000x4 .f32) : FVec Ideal S4x5000x5000x2 .f32 :=
  subf (minimumf (firstOf (extractStridedSlice S4x5000x2 ![0, 0, 2] b slices_S4x5000x4_S4x5000x2_0_0_2))
      (secondOf (extractStridedSlice S4x5000x2 ![0, 0, 2] b slices_S4x5000x4_S4x5000x2_0_0_2)))
    (maximumf (firstOf (extractStridedSlice S4x5000x2 ![0, 0, 0] b slices_S4x5000x4_S4x5000x2_0_0_0))
      (secondOf (extractStridedSlice S4x5000x2 ![0, 0, 0] b slices_S4x5000x4_S4x5000x2_0_0_0)))

/-- The areas of the intersections, out of their sides. -/
def interOf (v : FVec Ideal S4x5000x5000x2 .f32) : FVec Ideal S4x5000x5000 .f32 :=
  mulf (shapeCast S4x5000x5000 (extractStridedSlice S4x5000x5000x1 ![0, 0, 0, 0] v slices_S4x5000x5000x2_S4x5000x5000x1_0_0_0_0)
      shapeCasts_S4x5000x5000x1_S4x5000x5000)
    (shapeCast S4x5000x5000 (extractStridedSlice S4x5000x5000x1 ![0, 0, 0, 1] v slices_S4x5000x5000x2_S4x5000x5000x1_0_0_0_1)
      shapeCasts_S4x5000x5000x1_S4x5000x5000)

/-- The overlaps, out of the sides of the intersections and the areas. -/
def iouOf (v : FVec Ideal S4x5000x5000x2 .f32) (a : FVec Ideal S4x5000 .f32) : FVec Ideal S4x5000x5000 .f32 :=
  Host.divf (interOf v)
    (subf (addf (broadcastInDim S4x5000x5000 ![0, 1, 2] bcast_S4x5000x1_S4x5000x5000_0_1_2 (column a))
        (broadcastInDim S4x5000x5000 ![0, 1, 2] bcast_S4x1x5000_S4x5000x5000_0_1_2
          (broadcastInDim S4x1x5000 ![0, 2] bcast_S4x5000_S4x1x5000_0_2 a))) (interOf v))

/-- The three hundred best. -/
def bestOf (v : FVec Ideal S4x5000 .f32) : FVec Ideal S4x300 .f32 × IVec S4x300 32 :=
  Host.topK S4x300 1 (FloatOps.cmpfTotal .gt) v sliceFits_S4x5000_S4x300

/-- Indices of the best, negative ones counted from the end, as a column. -/
def pickedOf (v : IVec S4x300 32) : IVec S4x300x1 32 :=
  broadcastInDim S4x300x1 ![0, 1] bcast_S4x300_S4x300x1_0_1
    (select (cmpi .slt v (broadcastInDim S4x300 ![] bcast_S_S4x300 (constantI S_ 32 0#32)))
      (addi v (broadcastInDim S4x300 ![] bcast_S_S4x300 (constantI S_ 32 5000#32))) v)

/-- The rows of the result before the missing ones are blanked. -/
def rawOf (b : FVec Ideal S4x5000x4 .f32) (s k : FVec Ideal S4x5000 .f32) (i : IVec S4x300x1 32) : FVec Ideal S4x300x6 .f32 :=
  concatenate S4x300x6 2
    [⟨S4x300x4, Host.gather gather_S4x5000x4_S4x300x1_S4x300x4_2_1_0_0_1_2_114 b i⟩,
      ⟨S4x300x1, broadcastInDim S4x300x1 ![0, 1] bcast_S4x300_S4x300x1_0_1
        (Host.gather gather_S4x5000_S4x300x1_S4x300_n_1_0_0_1_2_11 s i)⟩,
      ⟨S4x300x1, broadcastInDim S4x300x1 ![0, 1] bcast_S4x300_S4x300x1_0_1
        (Host.gather gather_S4x5000_S4x300x1_S4x300_n_1_0_0_1_2_11 k i)⟩]
    concatenates_S4x300x4_S4x300x1_S4x300x1_S4x300x6_d2

/-- The result. -/
def resultOf (b : FVec Ideal S4x5000x4 .f32) (s k p : FVec Ideal S4x5000 .f32) : FVec Ideal S4x300x6 .f32 :=
  mulf (rawOf b s k (pickedOf (bestOf p).2))
    (broadcastInDim S4x300x6 ![0, 1, 2] bcast_S4x300x1_S4x300x6_0_1_2
      (broadcastInDim S4x300x1 ![0, 1] bcast_S4x300_S4x300x1_0_1
        (uitofp .f32 (cmpf .ogt (bestOf p).1 (broadcastInDim S4x300 ![] bcast_S_S4x300 (constant S_ .f32 0xFF800000#32))))))

variable (V : Vals)

/-- A stretch leaves the objectness. -/
theorem read_v1 : after hostOps0 V (Proc.devRef .tc main_v1) = objOf (V (Proc.devRef .tc main_arg0)) := by
  after_reads_simp
  rfl

/-- A stretch leaves whether the objectness is above the threshold. -/
theorem read_v3 : after hostOps0 V (Proc.devRef .tc main_v3) = validOf (V (Proc.devRef .tc main_arg0)) := by
  after_reads_simp
  rfl

/-- A stretch leaves the corners of the boxes. -/
theorem read_v29 : after hostOps0 V (Proc.devRef .tc main_v29) = boxesOf (V (Proc.devRef .tc main_arg0)) := by
  after_reads_simp
  rfl

/-- A stretch leaves the confidences. -/
theorem read_v30 : after hostOps0 V (Proc.devRef .tc main_v30) = confOf (V (Proc.devRef .tc main_arg0)) := by
  after_reads_simp
  rfl

/-- A stretch leaves the highest confidence. -/
theorem read_v31 : after hostOps0 V (Proc.devRef .tc main_v31) = topOf (confOf (V (Proc.devRef .tc main_arg0))) := by
  after_reads_simp
  rfl

/-- A stretch leaves the class. -/
theorem read_v32 : after hostOps0_1 V (Proc.devRef .tc main_v32) = classOf (V (Proc.devRef .tc main_v30)) := by
  after_reads_simp
  rfl

/-- A stretch leaves the class as a number. -/
theorem read_v33 : after hostOps0_2 V (Proc.devRef .tc main_v33) = (sitofp .f32 (V (Proc.devRef .tc main_v32) : IVec S4x5000 32) : FVec Ideal S4x5000 .f32) := by
  after_reads_simp

/-- A stretch leaves the score regardless of the threshold. -/
theorem read_v34 : after hostOps0_2 V (Proc.devRef .tc main_v34) = (mulf (V (Proc.devRef .tc main_v1) : FVec Ideal S4x5000 .f32) (V (Proc.devRef .tc main_v31) : FVec Ideal S4x5000 .f32) : FVec Ideal S4x5000 .f32) := by
  after_reads_simp

/-- A stretch leaves minus infinity. -/
theorem read_cst_5 : after hostOps0_2 V (Proc.devRef .tc main_cst_5) = (constant S_ .f32 0xFF800000#32 : FVec Ideal S_ .f32) := by
  after_reads_simp

/-- A stretch leaves the score. -/
theorem read_v35 : after hostOps0_3 V (Proc.devRef .tc main_v35) = select (V (Proc.devRef .tc main_v3)) (V (Proc.devRef .tc main_v34)) (everywhere (V (Proc.devRef .tc main_cst_5))) := by
  after_reads_simp
  rfl

/-- A stretch leaves the score turned around. -/
theorem read_v36 : after hostOps0_4 V (Proc.devRef .tc main_v36) = (Host.negf (V (Proc.devRef .tc main_v35) : FVec Ideal S4x5000 .f32) : FVec Ideal S4x5000 .f32) := by
  after_reads_simp

/-- A stretch leaves the order. -/
theorem read_v37 : after hostOps0_5 V (Proc.devRef .tc main_v37) = orderOf (V (Proc.devRef .tc main_v36)) := by
  after_reads_simp
  rfl

/-- A stretch leaves the boxes in order. -/
theorem read_v44 : after hostOps0_6 V (Proc.devRef .tc main_v44) = Host.gather gather_S4x5000x4_S4x5000x1_S4x5000x4_2_1_0_0_1_2_114 (V (Proc.devRef .tc main_v29)) (rowsOf (V (Proc.devRef .tc main_v37))) := by
  after_reads_simp
  rfl

/-- A stretch leaves the scores in order. -/
theorem read_v51 : after hostOps0_6 V (Proc.devRef .tc main_v51) = Host.gather gather_S4x5000_S4x5000x1_S4x5000_n_1_0_0_1_2_11 (V (Proc.devRef .tc main_v34)) (rowsOf (V (Proc.devRef .tc main_v37))) := by
  after_reads_simp
  rfl

/-- A stretch leaves the classes in order. -/
theorem read_v58 : after hostOps0_6 V (Proc.devRef .tc main_v58) = Host.gather gather_S4x5000_S4x5000x1_S4x5000_n_1_0_0_1_2_11 (V (Proc.devRef .tc main_v33)) (rowsOf (V (Proc.devRef .tc main_v37))) := by
  after_reads_simp
  rfl

/-- A stretch leaves the thresholds in order. -/
theorem read_v65 : after hostOps0_6 V (Proc.devRef .tc main_v65) = Host.gather gather_S4x5000_S4x5000x1_S4x5000_n_1_0_0_1_2_11 (V (Proc.devRef .tc main_v3)) (rowsOf (V (Proc.devRef .tc main_v37))) := by
  after_reads_simp
  rfl

/-- A stretch leaves the areas in order. -/
theorem read_v81 : after hostOps0_6 V (Proc.devRef .tc main_v81) = areaOf (movedOf (Host.gather gather_S4x5000x4_S4x5000x1_S4x5000x4_2_1_0_0_1_2_114 (V (Proc.devRef .tc main_v29)) (rowsOf (V (Proc.devRef .tc main_v37)))) (Host.gather gather_S4x5000_S4x5000x1_S4x5000_n_1_0_0_1_2_11 (V (Proc.devRef .tc main_v33)) (rowsOf (V (Proc.devRef .tc main_v37))))) := by
  after_reads_simp
  rfl

/-- A stretch leaves the signed sides of the intersections. -/
theorem read_v96 : after hostOps0_6 V (Proc.devRef .tc main_v96) = overlapOf (movedOf (Host.gather gather_S4x5000x4_S4x5000x1_S4x5000x4_2_1_0_0_1_2_114 (V (Proc.devRef .tc main_v29)) (rowsOf (V (Proc.devRef .tc main_v37)))) (Host.gather gather_S4x5000_S4x5000x1_S4x5000_n_1_0_0_1_2_11 (V (Proc.devRef .tc main_v33)) (rowsOf (V (Proc.devRef .tc main_v37))))) := by
  after_reads_simp
  rfl

/-- A stretch leaves zero. -/
theorem read_cst_14 : after hostOps0_6 V (Proc.devRef .tc main_cst_14) = (constant S_ .f32 0x00000000#32 : FVec Ideal S_ .f32) := by
  after_reads_simp

/-- A stretch leaves the sides of the intersections. -/
theorem read_v97 : after hostOps0_7 V (Proc.devRef .tc main_v97) = (maximumf (broadcastInDim S4x5000x5000x2 ![] bcast_S_S4x5000x5000x2 (id (V (Proc.devRef .tc main_cst_14)))) (V (Proc.devRef .tc main_v96) : FVec Ideal S4x5000x5000x2 .f32) : FVec Ideal S4x5000x5000x2 .f32) := by
  after_reads_simp
  rfl

/-- A stretch leaves the overlaps. -/
theorem read_v112_0 : after hostOps0_8 V (Proc.devRef .tc main_v112_0) = iouOf (V (Proc.devRef .tc main_v97)) (V (Proc.devRef .tc main_v81)) := by
  after_reads_simp
  rfl

/-- A stretch leaves the numbers of the detections. -/
theorem read_v112_1 : after hostOps0_8 V (Proc.devRef .tc main_v112_1) = iotaInDim S5000 32 0 := by
  after_reads_simp
  rfl

/-- A stretch leaves the turn. -/
theorem read_v112_3 : after hostOps0_8 V (Proc.devRef .tc main_v112_3) = constantI S_ 32 0#32 := by
  after_reads_simp
  rfl

/-- A stretch leaves the struck out. -/
theorem read_v112_4 : after hostOps0_8 V (Proc.devRef .tc main_v112_4) = noti (V (Proc.devRef .tc main_v65)) := by
  after_reads_simp
  rfl

/-- A stretch leaves the scores of those left. -/
theorem read_v115 : after hostOps0_10 V (Proc.devRef .tc main_v115) = select (V (Proc.devRef .tc main_v114)) (V (Proc.devRef .tc main_v51)) (everywhere (V (Proc.devRef .tc main_cst_17))) := by
  after_reads_simp
  rfl

/-- A stretch leaves which detections are left. -/
theorem read_v114 : after hostOps0_9 V (Proc.devRef .tc main_v114) = andi (V (Proc.devRef .tc main_v65)) (noti (V (Proc.devRef .tc main_v112_4))) := by
  after_reads_simp

/-- A stretch leaves minus infinity. -/
theorem read_cst_17 : after hostOps0_9 V (Proc.devRef .tc main_cst_17) = (constant S_ .f32 0xFF800000#32 : FVec Ideal S_ .f32) := by
  after_reads_simp

attribute [local irreducible] Host.gather Host.topK concatenate broadcastInDim cmpf uitofp mulf select cmpi addi in
/-- A stretch leaves the result. -/
theorem read_v145 : after hostOps0_11 V (Proc.devRef .tc main_v145) = resultOf (V (Proc.devRef .tc main_v44)) (V (Proc.devRef .tc main_v51)) (V (Proc.devRef .tc main_v58)) (V (Proc.devRef .tc main_v115)) := by
  after_reads_simp
  unfold resultOf rawOf pickedOf bestOf
  rfl

end Cert.Proof.RI

end
-- ==== Proof.RI.Entry.lean ====
/-
  What the reference's buffers hold when its loop begins, as functions of the argument.
-/
module

public import proofs.«01_k».proof.Proof.RI.Reads

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo

/-- The score of every detection, whether or not its objectness is above the threshold. -/
def rawScore (x : FVec Ideal S4x5000x85 .f32) : FVec Ideal S4x5000 .f32 := mulf (objOf x) (topOf (confOf x))

/-- The score of every detection. -/
def scoreOf (x : FVec Ideal S4x5000x85 .f32) : FVec Ideal S4x5000 .f32 :=
  select (validOf x) (rawScore x) (everywhere (constant S_ .f32 0xFF800000#32))

/-- The class of every detection, as a number. -/
def classF (x : FVec Ideal S4x5000x85 .f32) : FVec Ideal S4x5000 .f32 := sitofp .f32 (classOf (confOf x))

/-- The order of the detections. -/
def orderX (x : FVec Ideal S4x5000x85 .f32) : IVec S4x5000x1 32 := rowsOf (orderOf (Host.negf (scoreOf x)))

/-- One attribute of the detections in order. -/
def inOrder {α : Type} (v : S4x5000.Idx → α) (i : IVec S4x5000x1 32) : S4x5000.Idx → α :=
  Host.gather gather_S4x5000_S4x5000x1_S4x5000_n_1_0_0_1_2_11 v i

/-- The boxes of the detections in order. -/
def boxesX (x : FVec Ideal S4x5000x85 .f32) : FVec Ideal S4x5000x4 .f32 :=
  Host.gather gather_S4x5000x4_S4x5000x1_S4x5000x4_2_1_0_0_1_2_114 (boxesOf x) (orderX x)

/-- The boxes in order, moved by their class. -/
def movedX (x : FVec Ideal S4x5000x85 .f32) : FVec Ideal S4x5000x4 .f32 := movedOf (boxesX x) (inOrder (classF x) (orderX x))

/-- The overlaps of the detections in order. -/
def iouX (x : FVec Ideal S4x5000x85 .f32) : FVec Ideal S4x5000x5000 .f32 :=
  iouOf (maximumf (broadcastInDim S4x5000x5000x2 ![] bcast_S_S4x5000x5000x2 (id (constant S_ .f32 0x00000000#32))) (overlapOf (movedX x)))
    (areaOf (movedX x))

variable (V : Vals)

/-- The contents after the first stretch. -/
def s1 : Vals := after hostOps0 V
/-- The contents after 2 stretches. -/
def s2 : Vals := after hostOps0_1 (s1 V)
/-- The contents after 3 stretches. -/
def s3 : Vals := after hostOps0_2 (s2 V)
/-- The contents after 4 stretches. -/
def s4 : Vals := after hostOps0_3 (s3 V)
/-- The contents after 5 stretches. -/
def s5 : Vals := after hostOps0_4 (s4 V)
/-- The contents after 6 stretches. -/
def s6 : Vals := after hostOps0_5 (s5 V)
/-- The contents after 7 stretches. -/
def s7 : Vals := after hostOps0_6 (s6 V)
/-- The contents after 8 stretches. -/
def s8 : Vals := after hostOps0_7 (s7 V)
/-- The contents after 9 stretches. -/
def s9 : Vals := after hostOps0_8 (s8 V)

/-- The contents when the loop begins. -/
theorem entry_eq : afterL preI V = s9 V := rfl

/-- The argument. -/
def argOf : FVec Ideal S4x5000x85 .f32 := V (Proc.devRef .tc main_arg0)

/-- After the first stretch: the objectness. -/
theorem s1_v1 : s1 V (Proc.devRef .tc main_v1) = objOf (argOf V) := by
  exact read_v1 V

/-- After the first stretch: whether the objectness is above the threshold. -/
theorem s1_v3 : s1 V (Proc.devRef .tc main_v3) = validOf (argOf V) := by
  exact read_v3 V

/-- After the first stretch: the corners of the boxes. -/
theorem s1_v29 : s1 V (Proc.devRef .tc main_v29) = boxesOf (argOf V) := by
  exact read_v29 V

/-- After the first stretch: the confidences. -/
theorem s1_v30 : s1 V (Proc.devRef .tc main_v30) = confOf (argOf V) := by
  exact read_v30 V

/-- After the first stretch: the highest confidence. -/
theorem s1_v31 : s1 V (Proc.devRef .tc main_v31) = topOf (confOf (argOf V)) := by
  exact read_v31 V

/-- After the second stretch: the objectness. -/
theorem s2_v1 : s2 V (Proc.devRef .tc main_v1) = objOf (argOf V) := by
  exact (after_of_writes_sub _ _ hostOps0_1_writes (by decide +kernel)).trans (s1_v1 V)

/-- After the second stretch: whether the objectness is above the threshold. -/
theorem s2_v3 : s2 V (Proc.devRef .tc main_v3) = validOf (argOf V) := by
  exact (after_of_writes_sub _ _ hostOps0_1_writes (by decide +kernel)).trans (s1_v3 V)

/-- After the second stretch: the corners of the boxes. -/
theorem s2_v29 : s2 V (Proc.devRef .tc main_v29) = boxesOf (argOf V) := by
  exact (after_of_writes_sub _ _ hostOps0_1_writes (by decide +kernel)).trans (s1_v29 V)

/-- After the second stretch: the highest confidence. -/
theorem s2_v31 : s2 V (Proc.devRef .tc main_v31) = topOf (confOf (argOf V)) := by
  exact (after_of_writes_sub _ _ hostOps0_1_writes (by decide +kernel)).trans (s1_v31 V)

/-- After the second stretch: the class. -/
theorem s2_v32 : s2 V (Proc.devRef .tc main_v32) = classOf (confOf (argOf V)) := by
  exact (read_v32 (s1 V)).trans (by rw [s1_v30])

/-- After the third stretch: whether the objectness is above the threshold. -/
theorem s3_v3 : s3 V (Proc.devRef .tc main_v3) = validOf (argOf V) := by
  exact (after_of_writes_sub _ _ hostOps0_2_writes (by decide +kernel)).trans (s2_v3 V)

/-- After the third stretch: the corners of the boxes. -/
theorem s3_v29 : s3 V (Proc.devRef .tc main_v29) = boxesOf (argOf V) := by
  exact (after_of_writes_sub _ _ hostOps0_2_writes (by decide +kernel)).trans (s2_v29 V)

/-- After the third stretch: the class as a number. -/
theorem s3_v33 : s3 V (Proc.devRef .tc main_v33) = classF (argOf V) := by
  exact (read_v33 (s2 V)).trans (by rw [s2_v32]; rfl)

/-- After the third stretch: the score regardless of the threshold. -/
theorem s3_v34 : s3 V (Proc.devRef .tc main_v34) = rawScore (argOf V) := by
  exact (read_v34 (s2 V)).trans (by rw [s2_v1, s2_v31]; rfl)

/-- After the third stretch: minus infinity. -/
theorem s3_cst_5 : s3 V (Proc.devRef .tc main_cst_5) = (constant S_ .f32 0xFF800000#32 : FVec Ideal S_ .f32) := by
  exact (read_cst_5 (s2 V)).trans (by rfl)

/-- After the fourth stretch: whether the objectness is above the threshold. -/
theorem s4_v3 : s4 V (Proc.devRef .tc main_v3) = validOf (argOf V) := by
  exact (after_of_writes_sub _ _ hostOps0_3_writes (by decide +kernel)).trans (s3_v3 V)

/-- After the fourth stretch: the corners of the boxes. -/
theorem s4_v29 : s4 V (Proc.devRef .tc main_v29) = boxesOf (argOf V) := by
  exact (after_of_writes_sub _ _ hostOps0_3_writes (by decide +kernel)).trans (s3_v29 V)

/-- After the fourth stretch: the class as a number. -/
theorem s4_v33 : s4 V (Proc.devRef .tc main_v33) = classF (argOf V) := by
  exact (after_of_writes_sub _ _ hostOps0_3_writes (by decide +kernel)).trans (s3_v33 V)

/-- After the fourth stretch: the score regardless of the threshold. -/
theorem s4_v34 : s4 V (Proc.devRef .tc main_v34) = rawScore (argOf V) := by
  exact (after_of_writes_sub _ _ hostOps0_3_writes (by decide +kernel)).trans (s3_v34 V)

/-- After the fourth stretch: the score. -/
theorem s4_v35 : s4 V (Proc.devRef .tc main_v35) = scoreOf (argOf V) := by
  exact (read_v35 (s3 V)).trans (by rw [s3_v3, s3_v34, s3_cst_5]; rfl)

/-- After the fifth stretch: whether the objectness is above the threshold. -/
theorem s5_v3 : s5 V (Proc.devRef .tc main_v3) = validOf (argOf V) := by
  exact (after_of_writes_sub _ _ hostOps0_4_writes (by decide +kernel)).trans (s4_v3 V)

/-- After the fifth stretch: the corners of the boxes. -/
theorem s5_v29 : s5 V (Proc.devRef .tc main_v29) = boxesOf (argOf V) := by
  exact (after_of_writes_sub _ _ hostOps0_4_writes (by decide +kernel)).trans (s4_v29 V)

/-- After the fifth stretch: the class as a number. -/
theorem s5_v33 : s5 V (Proc.devRef .tc main_v33) = classF (argOf V) := by
  exact (after_of_writes_sub _ _ hostOps0_4_writes (by decide +kernel)).trans (s4_v33 V)

/-- After the fifth stretch: the score regardless of the threshold. -/
theorem s5_v34 : s5 V (Proc.devRef .tc main_v34) = rawScore (argOf V) := by
  exact (after_of_writes_sub _ _ hostOps0_4_writes (by decide +kernel)).trans (s4_v34 V)

/-- After the fifth stretch: the score turned around. -/
theorem s5_v36 : s5 V (Proc.devRef .tc main_v36) = (Host.negf (scoreOf (argOf V)) : FVec Ideal S4x5000 .f32) := by
  exact (read_v36 (s4 V)).trans (by rw [s4_v35])

/-- After the sixth stretch: whether the objectness is above the threshold. -/
theorem s6_v3 : s6 V (Proc.devRef .tc main_v3) = validOf (argOf V) := by
  exact (after_of_writes_sub _ _ hostOps0_5_writes (by decide +kernel)).trans (s5_v3 V)

/-- After the sixth stretch: the corners of the boxes. -/
theorem s6_v29 : s6 V (Proc.devRef .tc main_v29) = boxesOf (argOf V) := by
  exact (after_of_writes_sub _ _ hostOps0_5_writes (by decide +kernel)).trans (s5_v29 V)

/-- After the sixth stretch: the class as a number. -/
theorem s6_v33 : s6 V (Proc.devRef .tc main_v33) = classF (argOf V) := by
  exact (after_of_writes_sub _ _ hostOps0_5_writes (by decide +kernel)).trans (s5_v33 V)

/-- After the sixth stretch: the score regardless of the threshold. -/
theorem s6_v34 : s6 V (Proc.devRef .tc main_v34) = rawScore (argOf V) := by
  exact (after_of_writes_sub _ _ hostOps0_5_writes (by decide +kernel)).trans (s5_v34 V)

/-- After the sixth stretch: the order. -/
theorem s6_v37 : s6 V (Proc.devRef .tc main_v37) = orderOf (Host.negf (scoreOf (argOf V))) := by
  exact (read_v37 (s5 V)).trans (by rw [s5_v36])

/-- After the seventh stretch: the boxes in order. -/
theorem s7_v44 : s7 V (Proc.devRef .tc main_v44) = boxesX (argOf V) := by
  exact (read_v44 (s6 V)).trans (by rw [s6_v29, s6_v37]; rfl)

/-- After the seventh stretch: the scores in order. -/
theorem s7_v51 : s7 V (Proc.devRef .tc main_v51) = inOrder (rawScore (argOf V)) (orderX (argOf V)) := by
  exact (read_v51 (s6 V)).trans (by rw [s6_v34, s6_v37]; rfl)

/-- After the seventh stretch: the classes in order. -/
theorem s7_v58 : s7 V (Proc.devRef .tc main_v58) = inOrder (classF (argOf V)) (orderX (argOf V)) := by
  exact (read_v58 (s6 V)).trans (by rw [s6_v33, s6_v37]; rfl)

/-- After the seventh stretch: the thresholds in order. -/
theorem s7_v65 : s7 V (Proc.devRef .tc main_v65) = inOrder (validOf (argOf V)) (orderX (argOf V)) := by
  exact (read_v65 (s6 V)).trans (by rw [s6_v3, s6_v37]; rfl)

/-- After the seventh stretch: the areas in order. -/
theorem s7_v81 : s7 V (Proc.devRef .tc main_v81) = areaOf (movedX (argOf V)) := by
  exact (read_v81 (s6 V)).trans (by rw [s6_v29, s6_v37, s6_v33]; rfl)

/-- After the seventh stretch: the signed sides of the intersections. -/
theorem s7_v96 : s7 V (Proc.devRef .tc main_v96) = overlapOf (movedX (argOf V)) := by
  exact (read_v96 (s6 V)).trans (by rw [s6_v29, s6_v37, s6_v33]; rfl)

/-- After the seventh stretch: zero. -/
theorem s7_cst_14 : s7 V (Proc.devRef .tc main_cst_14) = (constant S_ .f32 0x00000000#32 : FVec Ideal S_ .f32) := by
  exact (read_cst_14 (s6 V)).trans (by rfl)

/-- After the eighth stretch: the boxes in order. -/
theorem s8_v44 : s8 V (Proc.devRef .tc main_v44) = boxesX (argOf V) := by
  exact (after_of_writes_sub _ _ hostOps0_7_writes (by decide +kernel)).trans (s7_v44 V)

/-- After the eighth stretch: the scores in order. -/
theorem s8_v51 : s8 V (Proc.devRef .tc main_v51) = inOrder (rawScore (argOf V)) (orderX (argOf V)) := by
  exact (after_of_writes_sub _ _ hostOps0_7_writes (by decide +kernel)).trans (s7_v51 V)

/-- After the eighth stretch: the classes in order. -/
theorem s8_v58 : s8 V (Proc.devRef .tc main_v58) = inOrder (classF (argOf V)) (orderX (argOf V)) := by
  exact (after_of_writes_sub _ _ hostOps0_7_writes (by decide +kernel)).trans (s7_v58 V)

/-- After the eighth stretch: the thresholds in order. -/
theorem s8_v65 : s8 V (Proc.devRef .tc main_v65) = inOrder (validOf (argOf V)) (orderX (argOf V)) := by
  exact (after_of_writes_sub _ _ hostOps0_7_writes (by decide +kernel)).trans (s7_v65 V)

/-- After the eighth stretch: the areas in order. -/
theorem s8_v81 : s8 V (Proc.devRef .tc main_v81) = areaOf (movedX (argOf V)) := by
  exact (after_of_writes_sub _ _ hostOps0_7_writes (by decide +kernel)).trans (s7_v81 V)

/-- After the eighth stretch: the sides of the intersections. -/
theorem s8_v97 : s8 V (Proc.devRef .tc main_v97) = (maximumf (broadcastInDim S4x5000x5000x2 ![] bcast_S_S4x5000x5000x2 (id (constant S_ .f32 0x00000000#32))) (overlapOf (movedX (argOf V))) : FVec Ideal S4x5000x5000x2 .f32) := by
  exact (read_v97 (s7 V)).trans (by rw [s7_cst_14, s7_v96])

/-- After the ninth stretch: the boxes in order. -/
theorem s9_v44 : s9 V (Proc.devRef .tc main_v44) = boxesX (argOf V) := by
  exact (after_of_writes_sub _ _ hostOps0_8_writes (by decide +kernel)).trans (s8_v44 V)

/-- After the ninth stretch: the scores in order. -/
theorem s9_v51 : s9 V (Proc.devRef .tc main_v51) = inOrder (rawScore (argOf V)) (orderX (argOf V)) := by
  exact (after_of_writes_sub _ _ hostOps0_8_writes (by decide +kernel)).trans (s8_v51 V)

/-- After the ninth stretch: the classes in order. -/
theorem s9_v58 : s9 V (Proc.devRef .tc main_v58) = inOrder (classF (argOf V)) (orderX (argOf V)) := by
  exact (after_of_writes_sub _ _ hostOps0_8_writes (by decide +kernel)).trans (s8_v58 V)

/-- After the ninth stretch: the thresholds in order. -/
theorem s9_v65 : s9 V (Proc.devRef .tc main_v65) = inOrder (validOf (argOf V)) (orderX (argOf V)) := by
  exact (after_of_writes_sub _ _ hostOps0_8_writes (by decide +kernel)).trans (s8_v65 V)

/-- After the ninth stretch: the overlaps. -/
theorem s9_v112_0 : s9 V (Proc.devRef .tc main_v112_0) = iouX (argOf V) := by
  exact (read_v112_0 (s8 V)).trans (by rw [s8_v97, s8_v81]; rfl)

/-- After the ninth stretch: the numbers of the detections. -/
theorem s9_v112_1 : s9 V (Proc.devRef .tc main_v112_1) = iotaInDim S5000 32 0 := by
  exact (read_v112_1 (s8 V)).trans (by rfl)

/-- After the ninth stretch: the turn. -/
theorem s9_v112_3 : s9 V (Proc.devRef .tc main_v112_3) = constantI S_ 32 0#32 := by
  exact (read_v112_3 (s8 V)).trans (by rfl)

/-- After the ninth stretch: the struck out. -/
theorem s9_v112_4 : s9 V (Proc.devRef .tc main_v112_4) = noti (inOrder (validOf (argOf V)) (orderX (argOf V))) := by
  exact (read_v112_4 (s8 V)).trans (by rw [s8_v65])

end Cert.Proof.RI

end
-- ==== Proof.RI.Gather.lean ====
/-
  The reference's gathers by an index per position: at a position whose index is in range, the operand at that index.
-/
module

public import proofs.«01_k».proof.Proof.RI.Reads
public import Idealize.ShloMosaic.Lib.ValueIdx
public import Idealize.ShloMosaic.Lib.Pipeline.Value

@[expose] public section

set_option maxRecDepth 16384

noncomputable section

namespace Cert.Proof.RI

open Cert.ReferenceIdeal Cert.ReferenceIdeal.Gen
open Idealize.ShloMosaic Idealize.ShloMosaic.ValueIdx

/-- A gather reads the operand at any index with the coordinates it computes. -/
theorem gather_at {α : Type} {s si t : Shape} {w : ℕ} (d : GatherDims s si t) (x : s.Idx → α) (idx : IVec si w) (j : t.Idx) (k : s.Idx)
    (h : ∀ a, d.start j idx a + d.batchCoord j a + d.offCoord j a = (k a).val) : Host.gather d x idx j = x k := by
  show x (d.operandIdx j idx) = x k
  exact congrArg x (funext fun a => Fin.ext (h a))

/-- A number below the count as a 32-bit word, read signed. -/
theorem word_toNat {n : ℕ} (h : n < 5000) : (BitVec.ofNat 32 n).toInt.toNat = n := by
  rw [BitVec.toInt_eq_toNat_of_lt (by rw [BitVec.toNat_ofNat, Nat.mod_eq_of_lt (by omega)]; omega), Int.toNat_natCast,
    BitVec.toNat_ofNat, Nat.mod_eq_of_lt (by omega)]

/-- The clamped start at an index in range. -/
theorem start_eq {v : BitVec 32} {n : Fin 5000} (h : v = BitVec.ofNat 32 n.val) : min v.toInt.toNat 4999 + 0 + 0 = n.val := by
  rw [h, word_toNat n.isLt]; have := n.isLt; omega

variable {α : Type}

/-- Four attributes of every detection, gathered for every detection. -/
theorem gather4_apply (x : S4x5000x4.Idx → α) (idx : IVec S4x5000x1 32) (b : Fin 4) (i : Fin 5000) (c : Fin 4) (n : Fin 5000)
    (h : idx (ix3 b i 0) = BitVec.ofNat 32 n.val) : Host.gather gather_S4x5000x4_S4x5000x1_S4x5000x4_2_1_0_0_1_2_114 x idx (ix3 b i c) = x (ix3 b n c) := by
  refine gather_at _ _ _ _ _ fun a => ?_
  match a with
  | ⟨0, _⟩ => show 0 + b.val + 0 = b.val; omega
  | ⟨1, _⟩ =>
    refine start_eq ((congrArg idx ?_).trans h)
    funext e
    match e with
    | ⟨0, _⟩ => rfl
    | ⟨1, _⟩ => rfl
    | ⟨2, _⟩ => rfl
  | ⟨2, _⟩ => show 0 + 0 + c.val = c.val; omega

/-- One attribute of every detection, gathered for every detection. -/
theorem gather1_apply (x : S4x5000.Idx → α) (idx : IVec S4x5000x1 32) (b : Fin 4) (i : Fin 5000) (n : Fin 5000)
    (h : idx (ix3 b i 0) = BitVec.ofNat 32 n.val) : Host.gather gather_S4x5000_S4x5000x1_S4x5000_n_1_0_0_1_2_11 x idx (ix2 b i) = x (ix2 b n) := by
  refine gather_at _ _ _ _ _ fun a => ?_
  match a with
  | ⟨0, _⟩ => show 0 + b.val + 0 = b.val; omega
  | ⟨1, _⟩ =>
    refine start_eq ((congrArg idx ?_).trans h)
    funext e
    match e with
    | ⟨0, _⟩ => rfl
    | ⟨1, _⟩ => rfl
    | ⟨2, _⟩ => rfl

/-- Four attributes of every detection, gathered for every row. -/
theorem pick4_apply (x : S4x5000x4.Idx → α) (idx : IVec S4x300x1 32) (b : Fin 4) (i : Fin 300) (c : Fin 4) (n : Fin 5000)
    (h : idx (ix3 b i 0) = BitVec.ofNat 32 n.val) : Host.gather gather_S4x5000x4_S4x300x1_S4x300x4_2_1_0_0_1_2_114 x idx (ix3 b i c) = x (ix3 b n c) := by
  refine gather_at _ _ _ _ _ fun a => ?_
  match a with
  | ⟨0, _⟩ => show 0 + b.val + 0 = b.val; omega
  | ⟨1, _⟩ =>
    refine start_eq ((congrArg idx ?_).trans h)
    funext e
    match e with
    | ⟨0, _⟩ => rfl
    | ⟨1, _⟩ => rfl
    | ⟨2, _⟩ => rfl
  | ⟨2, _⟩ => show 0 + 0 + c.val = c.val; omega

/-- One attribute of every detection, gathered for every row. -/
theorem pick1_apply (x : S4x5000.Idx → α) (idx : IVec S4x300x1 32) (b : Fin 4) (i : Fin 300) (n : Fin 5000)
    (h : idx (ix3 b i 0) = BitVec.ofNat 32 n.val) : Host.gather gather_S4x5000_S4x300x1_S4x300_n_1_0_0_1_2_11 x idx (ix2 b i) = x (ix2 b n) := by
  refine gather_at _ _ _ _ _ fun a => ?_
  match a with
  | ⟨0, _⟩ => show 0 + b.val + 0 = b.val; omega
  | ⟨1, _⟩ =>
    refine start_eq ((congrArg idx ?_).trans h)
    funext e
    match e with
    | ⟨0, _⟩ => rfl
    | ⟨1, _⟩ => rfl
    | ⟨2, _⟩ => rfl

/-- An index in range is not taken for one counted from the end. -/
theorem not_end {v : BitVec 32} {n : Fin 5000} (h : v = BitVec.ofNat 32 n.val) :
    Scalar.select (IntOp.cmpi .slt v 0#32) (IntOp.addi v 5000#32) v = BitVec.ofNat 32 n.val := by
  have hn := n.isLt
  have hs : v.slt 0#32 = false := by
    have hi : (BitVec.ofNat 32 n.val).toInt = ((BitVec.ofNat 32 n.val).toNat : ℤ) :=
      BitVec.toInt_eq_toNat_of_lt (by rw [BitVec.toNat_ofNat, Nat.mod_eq_of_lt (by omega)]; omega)
    rw [h, BitVec.slt_eq_decide, decide_eq_false_iff_not, not_lt, hi]
    exact Int.natCast_nonneg _
  show (if BitVec.ofBool (v.slt 0#32) = 1#1 then _ else v) = _
  rw [hs, if_neg (by decide), h]

/-- The index a detection is gathered by. -/
theorem rowsOf_apply (v : IVec S4x5000 32) (b : Fin 4) (i n : Fin 5000) (h : v (ix2 b i) = BitVec.ofNat 32 n.val) :
    rowsOf v (ix3 b i 0) = BitVec.ofNat 32 n.val := by
  unfold rowsOf
  refine (broadcastInDim_apply _ _ _ (ix3 b i 0) (ix2 b i) fun a => ?_).trans ?_
  · match a with
    | ⟨0, _⟩ => rfl
    | ⟨1, _⟩ => rfl
  · exact not_end h

/-- The index a row is gathered by. -/
theorem pickedOf_apply (v : IVec S4x300 32) (b : Fin 4) (j : Fin 300) (n : Fin 5000) (h : v (ix2 b j) = BitVec.ofNat 32 n.val) :
    pickedOf v (ix3 b j 0) = BitVec.ofNat 32 n.val := by
  unfold pickedOf
  refine (broadcastInDim_apply _ _ _ (ix3 b j 0) (ix2 b j) fun a => ?_).trans ?_
  · match a with
    | ⟨0, _⟩ => rfl
    | ⟨1, _⟩ => rfl
  · exact not_end h

end Cert.Proof.RI

end
-- ==== Proof.Pure.Best.lean ====
/-
  The highest class confidence of a detection and its class, told by what they are among the confidences.
-/
module

public import proofs.«01_k».proof.Proof.Pure.Spec

@[expose] public section

noncomputable section

namespace Cert.Proof.Pure

variable (d : Det)

/-- The confidence in class `k`. -/
def conf (k : ℕ) : EReal := d (Fin.ofNat 85 (k + 5))

/-- No confidence up to class `n` is above the highest. -/
theorem conf_le (n : ℕ) : ∀ k, k ≤ n → conf d k ≤ best d n := by
  induction n with
  | zero => intro k hk; rw [Nat.le_zero.mp hk]; exact le_refl _
  | succ n ih =>
    intro k hk
    show _ ≤ if best d n < conf d (n + 1) then conf d (n + 1) else best d n
    rcases Nat.lt_or_ge k (n + 1) with h | h
    · have := ih k (Nat.lt_succ_iff.mp h)
      split
      · exact this.trans (le_of_lt ‹_›)
      · exact this
    · rw [Nat.le_antisymm hk h]
      split
      · exact le_refl _
      · exact not_lt.mp ‹_›

/-- The class is the first whose confidence is the highest. -/
theorem cls_spec (n : ℕ) : ∃ k, k ≤ n ∧ cls d n = BitVec.ofNat 32 k ∧ conf d k = best d n ∧ ∀ l, l < k → conf d l < best d n := by
  induction n with
  | zero => exact ⟨0, le_refl _, rfl, rfl, fun l hl => absurd hl (Nat.not_lt_zero l)⟩
  | succ n ih =>
    obtain ⟨k, hk, hc, hb, hf⟩ := ih
    have eb : best d (n + 1) = if best d n < conf d (n + 1) then conf d (n + 1) else best d n := rfl
    have ec : cls d (n + 1) = if best d n < conf d (n + 1) then BitVec.ofNat 32 (n + 1) else cls d n := rfl
    by_cases h : best d n < conf d (n + 1)
    · rw [eb, ec, if_pos h, if_pos h]
      exact ⟨n + 1, le_refl _, rfl, rfl, fun l hl => (conf_le d n l (Nat.lt_succ_iff.mp hl)).trans_lt h⟩
    · rw [eb, ec, if_neg h, if_neg h]
      exact ⟨k, hk.trans (Nat.le_succ n), hc, hb, hf⟩

/-- The highest confidence is that of some class and not below any. -/
theorem best_unique (m : EReal) (hle : ∀ k : Fin 80, conf d k.val ≤ m) (hm : ∃ k : Fin 80, m = conf d k.val) : m = best d 79 := by
  obtain ⟨k, hk⟩ := hm
  obtain ⟨c, hc, -, hb, -⟩ := cls_spec d 79
  refine le_antisymm ?_ ?_
  · rw [hk]; exact conf_le d 79 _ (Nat.lt_succ_iff.mp k.isLt)
  · rw [← hb]; exact hle ⟨c, Nat.lt_succ_of_le hc⟩

/-- A class of highest confidence that no earlier class shares is the class. -/
theorem cls_unique (k : Fin 80) (hle : ∀ l : Fin 80, conf d l.val < conf d k.val ∨ conf d l.val = conf d k.val ∧ k.val ≤ l.val) :
    BitVec.ofNat 32 k.val = cls d 79 := by
  obtain ⟨c, hc, he, hb, hf⟩ := cls_spec d 79
  have hbk : conf d k.val = best d 79 :=
    best_unique d _ (fun l => (hle l).elim le_of_lt fun h => h.1.le) ⟨k, rfl⟩
  have h1 : k.val ≤ c := by
    rcases hle ⟨c, Nat.lt_succ_of_le hc⟩ with h | h
    · exact absurd (hb.trans hbk.symm) (ne_of_lt h)
    · exact h.2
  have h2 : c ≤ k.val := by
    by_contra h
    exact absurd hbk (ne_of_lt (hf _ (not_le.mp h)))
  rw [he, Nat.le_antisymm h1 h2]

end Cert.Proof.Pure

end
-- ==== Proof.RI.Classes.lean ====
/-
  The reference's two reductions over the classes: the highest confidence, and the first class that has it.
-/
module

public import proofs.«01_k».proof.Proof.RI.Reads
public import proofs.«01_k».proof.Proof.Pure.Best
public import Idealize.ShloMosaic.PureOps.Ideal.Laws
public import Idealize.ShloMosaic.Lib.ValueIdx
public import Idealize.ShloMosaic.Lib.Pipeline.Value

@[expose] public section

set_option maxRecDepth 16384

noncomputable section

namespace Cert.Proof.RI

open Cert.ReferenceIdeal Cert.ReferenceIdeal.Gen
open Idealize.ShloMosaic Idealize.ShloMosaic.ValueIdx

/-- A fold by an operation that returns one of its arguments, never one after the other in a given order: the result is the start
or one of the elements, and comes first among them. -/
theorem foldl_spec {β : Type} (op : β → β → β) (R : β → β → Prop) (hr : ∀ x, R x x) (ht : ∀ x y w, R x y → R y w → R x w)
    (h1 : ∀ x y, op x y = x ∨ op x y = y) (h2 : ∀ x y, R (op x y) x ∧ R (op x y) y) (L : List β) :
    ∀ z, (L.foldl op z = z ∨ L.foldl op z ∈ L) ∧ R (L.foldl op z) z ∧ ∀ p ∈ L, R (L.foldl op z) p := by
  induction L with
  | nil => exact fun z => ⟨.inl rfl, hr z, fun p hp => absurd hp List.not_mem_nil⟩
  | cons a L ih =>
    intro z
    obtain ⟨i1, i2, i3⟩ := ih (op z a)
    show (L.foldl op (op z a) = z ∨ L.foldl op (op z a) ∈ a :: L) ∧ R (L.foldl op (op z a)) z ∧ ∀ p ∈ a :: L, R (L.foldl op (op z a)) p
    refine ⟨?_, ht _ _ _ i2 (h2 z a).1, fun p hp => ?_⟩
    · rcases i1 with e | e
      · rw [e]
        rcases h1 z a with e' | e'
        · exact .inl e'
        · exact .inr (by rw [e']; exact List.mem_cons_self)
      · exact .inr (List.mem_cons_of_mem _ e)
    · rcases List.mem_cons.mp hp with rfl | h
      · exact ht _ _ _ i2 (h2 z p).2
      · exact i3 p h

/-- The confidences reduced to one detection are those of that detection. -/
theorem drop_iff (i : S4x5000x80.Idx) (b : Fin 4) (n : Fin 5000) :
    reducesTo_S4x5000x80_S4x5000_d2.drop i = ix2 b n ↔ ∃ k : Fin 80, i = ix3 b n k := by
  constructor
  · intro h
    have h0 := congrArg Fin.val (congrFun h 0)
    have h1 := congrArg Fin.val (congrFun h 1)
    refine ⟨i 2, funext fun a => ?_⟩
    match a with
    | ⟨0, _⟩ => exact Fin.ext h0
    | ⟨1, _⟩ => exact Fin.ext h1
    | ⟨2, _⟩ => rfl
  · rintro ⟨k, rfl⟩
    funext a
    match a with
    | ⟨0, _⟩ => rfl
    | ⟨1, _⟩ => rfl

/-- A confidence. -/
theorem confOf_apply (x : FVec Ideal S4x5000x85 .f32) (b : Fin 4) (n : Fin 5000) (k : Fin 80) :
    confOf x (ix3 b n k) = Pure.conf (fun e => x (ix3 b n e)) k.val := by
  unfold confOf Pure.conf
  refine extractStridedSlice_apply _ _ _ _ (ix3 b n (Fin.ofNat 85 (k.val + 5))) fun a => ?_
  match a with
  | ⟨0, _⟩ => show b.val = 0 + b.val; omega
  | ⟨1, _⟩ => show n.val = 0 + n.val; omega
  | ⟨2, _⟩ => show (k.val + 5) % 85 = 5 + k.val; have := k.isLt; omega

/-- Minus infinity, as its bits read. -/
theorem low_eq : (FloatOps.ofBits .f32 0xFF800000#32 : Ideal .f32) = (⊥ : EReal) := by
  show Ideal.ofBits .f32 0xFF800000#32 = ⊥
  simp [Ideal.ofBits, Ideal.ieee]

/-- The highest confidence. -/
theorem topOf_apply (x : FVec Ideal S4x5000x85 .f32) (b : Fin 4) (n : Fin 5000) :
    topOf (confOf x) (ix2 b n) = Pure.best (fun e => x (ix3 b n e)) 79 := by
  have e : topOf (confOf x) (ix2 b n) = _ := (Host.reduce_eq_foldl _ _ _ _ _ _).trans List.foldl_map.symm
  have h := foldl_spec (β := EReal) max (fun x y => y ≤ x) (fun x => le_refl x) (fun x y w h h' => le_trans h' h)
    (fun x y => max_choice x y) (fun x y => ⟨le_max_left x y, le_max_right x y⟩)
    ((((List.finRange S4x5000x80.numel).map S4x5000x80.rowMajor.symm).filter fun i =>
      reducesTo_S4x5000x80_S4x5000_d2.drop i = ix2 b n).map (confOf x)) (FloatOps.ofBits .f32 0xFF800000#32 : Ideal .f32)
  have hmem : ∀ k : Fin 80, confOf x (ix3 b n k) ∈ ((((List.finRange S4x5000x80.numel).map S4x5000x80.rowMajor.symm).filter fun i =>
      reducesTo_S4x5000x80_S4x5000_d2.drop i = ix2 b n).map (confOf x)) := fun k =>
    List.mem_map.mpr ⟨ix3 b n k, List.mem_filter.mpr ⟨List.mem_map.mpr ⟨S4x5000x80.rowMajor (ix3 b n k), List.mem_finRange _,
      S4x5000x80.rowMajor.symm_apply_apply _⟩, decide_eq_true ((drop_iff _ b n).mpr ⟨k, rfl⟩)⟩, rfl⟩
  rw [e]
  refine Pure.best_unique _ _ (fun k => ?_) ?_
  · exact (confOf_apply x b n k).symm.le.trans (h.2.2 _ (hmem k))
  · rcases h.1 with h' | h'
    · have := h.2.2 _ (hmem 0)
      refine ⟨0, ?_⟩
      rw [← confOf_apply x b n 0]
      refine le_antisymm ?_ this
      exact (h'.trans low_eq).le.trans bot_le
    · obtain ⟨i, hi, hv⟩ := List.mem_map.mp h'
      obtain ⟨k, rfl⟩ := (drop_iff i b n).mp (of_decide_eq_true (List.mem_filter.mp hi).2)
      exact ⟨k, hv.symm.trans (confOf_apply x b n k)⟩

/-- One pair comes before another: its value is higher, or the same and its number not higher. -/
def Before (p q : EReal × BitVec 32) : Prop := q.1 < p.1 ∨ p.1 = q.1 ∧ p.2.toInt ≤ q.2.toInt

/-- The first of two pairs. -/
theorem reducer_eq (p q : EReal × BitVec 32) :
    reducer_argmax_f32_i32 (F := Ideal) p q = if q.1 < p.1 ∨ p.1 = q.1 ∧ p.2.toInt < q.2.toInt then p else q := by
  obtain ⟨a, i⟩ := p
  obtain ⟨b, k⟩ := q
  have e : reducer_argmax_f32_i32 (F := Ideal) (a, i) (b, k)
      = (Scalar.select (BitVec.ofBool (decide (b < a)) ||| BitVec.ofBool (decide (a ≠ a))) a b,
        Scalar.select (BitVec.ofBool (decide (b < a)) ||| BitVec.ofBool (decide (a ≠ a)) |||
          BitVec.ofBool (decide (a = b)) &&& BitVec.ofBool (i.slt k)) i k) := rfl
  rw [e, BitVec.slt_eq_decide]
  unfold Scalar.select
  rcases lt_trichotomy a b with h | h | h
  · simp [h.ne, not_lt_of_gt h]
  · subst h
    by_cases h' : i.toInt < k.toInt <;> simp [h']
  · simp [h, h.ne']

/-- The first class of highest confidence. -/
theorem classOf_apply (x : FVec Ideal S4x5000x85 .f32) (b : Fin 4) (n : Fin 5000) :
    classOf (confOf x) (ix2 b n) = Pure.cls (fun e => x (ix3 b n e)) 79 := by
  have e : classOf (confOf x) (ix2 b n) = _ := congrArg Prod.snd ((congrFun (Ideal.argReduce_eq_reduce2 reducer_argmax_f32_i32 (confOf x)
    (iotaInDim S4x5000x80 32 2) (constant S_ .f32 0xFF800000#32) (constantI S_ 32 0#32) reducesTo_S4x5000x80_S4x5000_d2 h_S_) (ix2 b n)).trans
    (Host.reduce2_eq_foldl_fiber _ _ _ _ _ _ _ _))
  have h := foldl_spec (β := EReal × BitVec 32) (reducer_argmax_f32_i32 (F := Ideal)) Before (fun x => .inr ⟨rfl, le_refl _⟩)
    (fun x y w h h' => by
      rcases h with h | h <;> rcases h' with h' | h'
      · exact .inl (h'.trans h)
      · exact .inl (h'.1 ▸ h)
      · exact .inl (h.1 ▸ h')
      · exact .inr ⟨h.1.trans h'.1, h.2.trans h'.2⟩)
    (fun x y => by rw [reducer_eq]; split <;> simp)
    (fun x y => by
      rw [reducer_eq]
      split
      · rename_i h
        exact ⟨.inr ⟨rfl, le_refl _⟩, h.imp id fun h => ⟨h.1, h.2.le⟩⟩
      · rename_i h
        push Not at h
        refine ⟨?_, .inr ⟨rfl, le_refl _⟩⟩
        rcases h.1.lt_or_eq with h' | h'
        · exact .inl h'
        · exact .inr ⟨h'.symm, h.2 h'⟩)
    (Host.argReduceFiber (confOf x) (iotaInDim S4x5000x80 32 2) reducesTo_S4x5000x80_S4x5000_d2 (ix2 b n)) (⊥, 0#32)
  have hmem : ∀ k : Fin 80, (confOf x (ix3 b n k), BitVec.ofNat 32 k.val) ∈
      Host.argReduceFiber (confOf x) (iotaInDim S4x5000x80 32 2) reducesTo_S4x5000x80_S4x5000_d2 (ix2 b n) := fun k =>
    List.mem_map.mpr ⟨S4x5000x80.rowMajor (ix3 b n k), List.mem_filter.mpr ⟨List.mem_finRange _,
      decide_eq_true (by rw [Equiv.symm_apply_apply]; exact (drop_iff _ b n).mpr ⟨k, rfl⟩)⟩, by rw [Equiv.symm_apply_apply]; rfl⟩
  have ez : ((constant S_ .f32 0xFF800000#32 : FVec Ideal S_ .f32) (Shape.Idx.first h_S_), (constantI S_ 32 0#32) (Shape.Idx.first h_S_))
      = ((⊥, 0#32) : EReal × BitVec 32) := Prod.ext low_eq rfl
  rw [e, ez]
  have hi : ∀ k : Fin 80, (BitVec.ofNat 32 k.val).toInt = k.val := fun k => by
    have := k.isLt
    rw [BitVec.toInt_eq_toNat_of_lt (by rw [BitVec.toNat_ofNat, Nat.mod_eq_of_lt (by omega)]; omega), BitVec.toNat_ofNat,
      Nat.mod_eq_of_lt (by omega)]
  have hk : ∃ k : Fin 80, (Host.argReduceFiber (confOf x) (iotaInDim S4x5000x80 32 2) reducesTo_S4x5000x80_S4x5000_d2 (ix2 b n)).foldl
      (reducer_argmax_f32_i32 (F := Ideal)) ((⊥, 0#32) : EReal × BitVec 32) = (confOf x (ix3 b n k), BitVec.ofNat 32 k.val) := by
    rcases h.1 with h' | h'
    · refine ⟨0, h'.trans (Prod.ext ?_ rfl)⟩
      have h0 := h.2.2 _ (hmem 0)
      rw [h'] at h0
      rcases h0 with h0 | h0
      · exact absurd h0 not_lt_bot
      · exact h0.1
    · obtain ⟨m, hm, hv⟩ := List.mem_map.mp h'
      obtain ⟨k, hk⟩ := (drop_iff _ b n).mp (of_decide_eq_true (List.mem_filter.mp hm).2)
      rw [hk] at hv
      exact ⟨k, hv.symm⟩
  obtain ⟨k, hk⟩ := hk
  rw [hk]
  refine Pure.cls_unique _ k fun l => ?_
  have hl := h.2.2 _ (hmem l)
  rw [hk] at hl
  rw [← confOf_apply x b n k, ← confOf_apply x b n l]
  refine hl.imp id fun hl => ⟨hl.1.symm, ?_⟩
  have := hl.2
  rw [hi, hi] at this
  exact Int.ofNat_le.mp this

end Cert.Proof.RI

end
-- ==== Proof.RI.Boxes.lean ====
/-
  The reference's boxes, areas and overlaps, read at a detection or at a pair of detections.
-/
module

public import proofs.«01_k».proof.Proof.RI.Reads
public import proofs.«01_k».proof.Proof.Pure.Spec
public import Idealize.ShloMosaic.PureOps.Ideal.Laws
public import Idealize.ShloMosaic.Lib.ValueIdx
public import Idealize.ShloMosaic.Lib.Pipeline.Value

@[expose] public section

set_option maxRecDepth 16384

noncomputable section

namespace Cert.Proof.RI

open Cert.ReferenceIdeal Cert.ReferenceIdeal.Gen
open Idealize.ShloMosaic Idealize.ShloMosaic.ValueIdx

/-- A column of an array of four attributes, read at a detection. -/
theorem sideOf_apply (v : FVec Ideal S4x5000x4 .f32) (k : Fin 4) (h : S4x5000x4.Slices ![0, 0, k.val] S4x5000x1) (b : Fin 4) (n : Fin 5000) :
    sideOf v k.val h (ix2 b n) = v (ix3 b n k) := by
  unfold sideOf
  refine (shapeCast_apply _ _ _ (ix3 b n 0) (by
    rw [Shape.rowMajor_val_two, Shape.rowMajor_val_three]
    show (b.val * 5000 + n.val) * 1 + 0 = b.val * 5000 + n.val
    omega)).trans ?_
  refine extractStridedSlice_apply _ _ _ _ _ fun a => ?_
  match a with
  | ⟨0, _⟩ => show b.val = 0 + b.val; omega
  | ⟨1, _⟩ => show n.val = 0 + n.val; omega
  | ⟨2, _⟩ => show k.val = k.val + 0; omega

/-- One of the first four attributes, read at a detection. -/
theorem attr4_apply (x : FVec Ideal S4x5000x85 .f32) (k : Fin 4) (h : S4x5000x4.Slices ![0, 0, k.val] S4x5000x1) (b : Fin 4)
    (n : Fin 5000) : attr4 x k.val h (ix2 b n) = x (ix3 b n (k.castLE (by omega))) := by
  refine (sideOf_apply (extractStridedSlice S4x5000x4 ![0, 0, 0] x slices_S4x5000x85_S4x5000x4_0_0_0) k h b n).trans ?_
  refine extractStridedSlice_apply _ _ _ _ _ fun a => ?_
  match a with
  | ⟨0, _⟩ => show b.val = 0 + b.val; omega
  | ⟨1, _⟩ => show n.val = 0 + n.val; omega
  | ⟨2, _⟩ => show k.val = 0 + k.val; omega

/-- The objectness, read at a detection. -/
theorem objOf_apply (x : FVec Ideal S4x5000x85 .f32) (b : Fin 4) (n : Fin 5000) : objOf x (ix2 b n) = x (ix3 b n 4) := by
  unfold objOf
  refine (shapeCast_apply _ _ _ (ix3 b n 0) (by
    rw [Shape.rowMajor_val_two, Shape.rowMajor_val_three]
    show (b.val * 5000 + n.val) * 1 + 0 = b.val * 5000 + n.val
    omega)).trans ?_
  refine extractStridedSlice_apply _ _ _ _ _ fun a => ?_
  match a with
  | ⟨0, _⟩ => show b.val = 0 + b.val; omega
  | ⟨1, _⟩ => show n.val = 0 + n.val; omega
  | ⟨2, _⟩ => rfl

/-- Whether a detection's objectness is above the threshold. -/
theorem validOf_apply (x : FVec Ideal S4x5000x85 .f32) (b : Fin 4) (n : Fin 5000) :
    validOf x (ix2 b n) = 1#1 ↔ Pure.Valid fun e => x (ix3 b n e) := by
  have e : validOf x (ix2 b n) = BitVec.ofBool (decide (Ideal.ofBits .f32 0x3E800000#32 < objOf x (ix2 b n))) := rfl
  rw [e, objOf_apply]
  by_cases h : Ideal.ofBits .f32 0x3E800000#32 < (x (ix3 b n 4) : EReal)
  · exact ⟨fun _ => h, fun _ => by rw [decide_eq_true h]; rfl⟩
  · refine ⟨fun h' => ?_, fun h' => absurd h' h⟩
    rw [decide_eq_false h] at h'
    exact absurd h' (by decide)

/-- A column, read at a detection. -/
theorem column_apply (v : FVec Ideal S4x5000 .f32) (b : Fin 4) (n : Fin 5000) (z : Fin 1) : column v (ix3 b n z) = v (ix2 b n) := by
  unfold column
  refine broadcastInDim_apply _ _ _ _ (ix2 b n) fun a => ?_
  match a with
  | ⟨0, _⟩ => rfl
  | ⟨1, _⟩ => rfl

/-- Four columns side by side, read at a detection. -/
theorem fourOf_apply (v : Fin 4 → FVec Ideal S4x5000 .f32) (b : Fin 4) (n : Fin 5000) (k : Fin 4) :
    fourOf (v 0) (v 1) (v 2) (v 3) (ix3 b n k) = v k (ix2 b n) :=
  (concatenate_ofFn_unit_apply (t := S4x5000x4) (s₁ := S4x5000x1) 2 (fun k : Fin 4 => column (v k))
    concatenates_S4x5000x1_S4x5000x1_S4x5000x1_S4x5000x1_S4x5000x4_d2 rfl rfl (ix3 b n k) k rfl (ix3 b n 0) (fun a ha => by
      match a with
      | ⟨0, _⟩ => rfl
      | ⟨1, _⟩ => rfl
      | ⟨2, _⟩ => exact absurd rfl ha)).trans (column_apply _ b n 0)

/-- The corners of a detection's box. -/
def corner (d : Pure.Det) : Fin 4 → EReal := ![d 0 - Pure.half d 2, d 1 - Pure.half d 3, d 0 + Pure.half d 2, d 1 + Pure.half d 3]

/-- The corners of the boxes, read at a detection. -/
theorem boxesOf_apply (x : FVec Ideal S4x5000x85 .f32) (b : Fin 4) (n : Fin 5000) (k : Fin 4) :
    boxesOf x (ix3 b n k) = corner (fun e => x (ix3 b n e)) k := by
  have h0 := attr4_apply x 0 slices_S4x5000x4_S4x5000x1_0_0_0 b n
  have h1 := attr4_apply x 1 slices_S4x5000x4_S4x5000x1_0_0_1 b n
  have h2 := attr4_apply x 2 slices_S4x5000x4_S4x5000x1_0_0_2 b n
  have h3 := attr4_apply x 3 slices_S4x5000x4_S4x5000x1_0_0_3 b n
  refine (fourOf_apply ![subf (attr4 x 0 slices_S4x5000x4_S4x5000x1_0_0_0) (halve (attr4 x 2 slices_S4x5000x4_S4x5000x1_0_0_2)),
    subf (attr4 x 1 slices_S4x5000x4_S4x5000x1_0_0_1) (halve (attr4 x 3 slices_S4x5000x4_S4x5000x1_0_0_3)),
    addf (attr4 x 0 slices_S4x5000x4_S4x5000x1_0_0_0) (halve (attr4 x 2 slices_S4x5000x4_S4x5000x1_0_0_2)),
    addf (attr4 x 1 slices_S4x5000x4_S4x5000x1_0_0_1) (halve (attr4 x 3 slices_S4x5000x4_S4x5000x1_0_0_3))] b n k).trans ?_
  match k with
  | ⟨0, _⟩ => exact congrArg₂ (fun u v : EReal => u - Ideal.div v (Ideal.ofBits .f32 0x40000000#32)) h0 h2
  | ⟨1, _⟩ => exact congrArg₂ (fun u v : EReal => u - Ideal.div v (Ideal.ofBits .f32 0x40000000#32)) h1 h3
  | ⟨2, _⟩ => exact congrArg₂ (fun u v : EReal => u + Ideal.div v (Ideal.ofBits .f32 0x40000000#32)) h0 h2
  | ⟨3, _⟩ => exact congrArg₂ (fun u v : EReal => u + Ideal.div v (Ideal.ofBits .f32 0x40000000#32)) h1 h3

/-- The boxes moved by their class, read at a detection. -/
theorem movedOf_apply (v : FVec Ideal S4x5000x4 .f32) (k : FVec Ideal S4x5000 .f32) (b : Fin 4) (n : Fin 5000) (c : Fin 4) :
    movedOf v k (ix3 b n c) = (v (ix3 b n c) : EReal) + (k (ix2 b n) : EReal) * Ideal.ofBits .f32 0x45F00000#32 := by
  refine congrArg (fun u : EReal => (v (ix3 b n c) : EReal) + u) ?_
  refine (broadcastInDim_apply _ _ _ _ (ix3 b n 0) fun a => ?_).trans ?_
  · match a with
    | ⟨0, _⟩ => rfl
    | ⟨1, _⟩ => rfl
    | ⟨2, _⟩ => rfl
  · exact congrArg (fun u : EReal => u * Ideal.ofBits .f32 0x45F00000#32) (column_apply k b n 0)

/-- The areas, read at a detection. -/
theorem areaOf_apply (v : FVec Ideal S4x5000x4 .f32) (b : Fin 4) (n : Fin 5000) :
    areaOf v (ix2 b n) = ((v (ix3 b n 2) : EReal) - v (ix3 b n 0)) * ((v (ix3 b n 3) : EReal) - v (ix3 b n 1)) := by
  have h0 := sideOf_apply v 0 slices_S4x5000x4_S4x5000x1_0_0_0 b n
  have h1 := sideOf_apply v 1 slices_S4x5000x4_S4x5000x1_0_0_1 b n
  have h2 := sideOf_apply v 2 slices_S4x5000x4_S4x5000x1_0_0_2 b n
  have h3 := sideOf_apply v 3 slices_S4x5000x4_S4x5000x1_0_0_3 b n
  exact congrArg₂ (fun u w : EReal => u * w) (congrArg₂ (fun u w : EReal => u - w) h2 h0) (congrArg₂ (fun u w : EReal => u - w) h3 h1)

/-- The first box's pair of coordinates, read at a pair of detections. -/
theorem firstOf_apply (v : FVec Ideal S4x5000x2 .f32) (b : Fin 4) (i j : Fin 5000) (e : Fin 2) : firstOf v (ix4 b i j e) = v (ix3 b i e) := by
  unfold firstOf
  refine (broadcastInDim_apply _ _ _ _ (ix4 b i 0 e) fun a => ?_).trans ?_
  · match a with
    | ⟨0, _⟩ => rfl
    | ⟨1, _⟩ => rfl
    | ⟨2, _⟩ => rfl
    | ⟨3, _⟩ => rfl
  · refine broadcastInDim_apply _ _ _ _ (ix3 b i e) fun a => ?_
    match a with
    | ⟨0, _⟩ => rfl
    | ⟨1, _⟩ => rfl
    | ⟨2, _⟩ => rfl

/-- The second box's pair of coordinates, read at a pair of detections. -/
theorem secondOf_apply (v : FVec Ideal S4x5000x2 .f32) (b : Fin 4) (i j : Fin 5000) (e : Fin 2) :
    secondOf v (ix4 b i j e) = v (ix3 b j e) := by
  unfold secondOf
  refine (broadcastInDim_apply _ _ _ _ (ix4 b 0 j e) fun a => ?_).trans ?_
  · match a with
    | ⟨0, _⟩ => rfl
    | ⟨1, _⟩ => rfl
    | ⟨2, _⟩ => rfl
    | ⟨3, _⟩ => rfl
  · refine broadcastInDim_apply _ _ _ _ (ix3 b j e) fun a => ?_
    match a with
    | ⟨0, _⟩ => rfl
    | ⟨1, _⟩ => rfl
    | ⟨2, _⟩ => rfl

/-- Two of four attributes, read at a detection. -/
theorem two_apply (v : FVec Ideal S4x5000x4 .f32) (o : ℕ) (h : S4x5000x4.Slices ![0, 0, o] S4x5000x2) (b : Fin 4) (n : Fin 5000)
    (e : Fin 2) (k : Fin 4) (hk : k.val = o + e.val) : extractStridedSlice S4x5000x2 ![0, 0, o] v h (ix3 b n e) = v (ix3 b n k) := by
  refine extractStridedSlice_apply _ _ _ _ _ fun a => ?_
  match a with
  | ⟨0, _⟩ => show b.val = 0 + b.val; omega
  | ⟨1, _⟩ => show n.val = 0 + n.val; omega
  | ⟨2, _⟩ => exact hk

/-- The signed sides of an intersection. -/
theorem overlapOf_apply (v : FVec Ideal S4x5000x4 .f32) (b : Fin 4) (i j : Fin 5000) (e : Fin 2) (k l : Fin 4) (hk : k.val = e.val)
    (hl : l.val = 2 + e.val) : overlapOf v (ix4 b i j e)
      = min (v (ix3 b i l) : EReal) (v (ix3 b j l)) - max (v (ix3 b i k) : EReal) (v (ix3 b j k)) := by
  have f (o : ℕ) (h : S4x5000x4.Slices ![0, 0, o] S4x5000x2) (k : Fin 4) (hk : k.val = o + e.val) :=
    (firstOf_apply (extractStridedSlice S4x5000x2 ![0, 0, o] v h) b i j e).trans (two_apply v o h b i e k hk)
  have s (o : ℕ) (h : S4x5000x4.Slices ![0, 0, o] S4x5000x2) (k : Fin 4) (hk : k.val = o + e.val) :=
    (secondOf_apply (extractStridedSlice S4x5000x2 ![0, 0, o] v h) b i j e).trans (two_apply v o h b j e k hk)
  have hk' : k.val = 0 + e.val := by omega
  exact congrArg₂ (fun u w : EReal => u - w)
    (congrArg₂ (fun u w : EReal => min u w) (f 2 slices_S4x5000x4_S4x5000x2_0_0_2 l hl) (s 2 slices_S4x5000x4_S4x5000x2_0_0_2 l hl))
    (congrArg₂ (fun u w : EReal => max u w) (f 0 slices_S4x5000x4_S4x5000x2_0_0_0 k hk') (s 0 slices_S4x5000x4_S4x5000x2_0_0_0 k hk'))

/-- One side of an intersection, read at a pair of detections. -/
theorem plane_apply (v : FVec Ideal S4x5000x5000x2 .f32) (e : Fin 2) (h : S4x5000x5000x2.Slices ![0, 0, 0, e.val] S4x5000x5000x1) (b : Fin 4)
    (i j : Fin 5000) : shapeCast S4x5000x5000 (extractStridedSlice S4x5000x5000x1 ![0, 0, 0, e.val] v h)
      shapeCasts_S4x5000x5000x1_S4x5000x5000 (ix3 b i j) = v (ix4 b i j e) := by
  refine (shapeCast_apply _ _ _ (ix4 b i j 0) (by
    rw [Shape.rowMajor_val_three, Shape.rowMajor_val_four]
    show ((b.val * 5000 + i.val) * 5000 + j.val) * 1 + 0 = (b.val * 5000 + i.val) * 5000 + j.val
    omega)).trans ?_
  refine extractStridedSlice_apply _ _ _ _ _ fun a => ?_
  match a with
  | ⟨0, _⟩ => show b.val = 0 + b.val; omega
  | ⟨1, _⟩ => show i.val = 0 + i.val; omega
  | ⟨2, _⟩ => show j.val = 0 + j.val; omega
  | ⟨3, _⟩ => show e.val = e.val + 0; omega

/-- The area of an intersection. -/
theorem interOf_apply (v : FVec Ideal S4x5000x5000x2 .f32) (b : Fin 4) (i j : Fin 5000) :
    interOf v (ix3 b i j) = (v (ix4 b i j 0) : EReal) * v (ix4 b i j 1) :=
  congrArg₂ (fun u w : EReal => u * w) (plane_apply v 0 slices_S4x5000x5000x2_S4x5000x5000x1_0_0_0_0 b i j)
    (plane_apply v 1 slices_S4x5000x5000x2_S4x5000x5000x1_0_0_0_1 b i j)

/-- The overlap of a pair of detections. -/
theorem iouOf_apply (v : FVec Ideal S4x5000x5000x2 .f32) (a : FVec Ideal S4x5000 .f32) (b : Fin 4) (i j : Fin 5000) :
    iouOf v a (ix3 b i j) = Ideal.div ((v (ix4 b i j 0) : EReal) * v (ix4 b i j 1))
      ((a (ix2 b i) : EReal) + a (ix2 b j) - (v (ix4 b i j 0) : EReal) * v (ix4 b i j 1)) := by
  have hi : broadcastInDim S4x5000x5000 ![0, 1, 2] bcast_S4x5000x1_S4x5000x5000_0_1_2 (column a) (ix3 b i j) = a (ix2 b i) := by
    refine (broadcastInDim_apply _ _ _ _ (ix3 b i 0) fun c => ?_).trans (column_apply a b i 0)
    match c with
    | ⟨0, _⟩ => rfl
    | ⟨1, _⟩ => rfl
    | ⟨2, _⟩ => rfl
  have hj : broadcastInDim S4x5000x5000 ![0, 1, 2] bcast_S4x1x5000_S4x5000x5000_0_1_2
      (broadcastInDim S4x1x5000 ![0, 2] bcast_S4x5000_S4x1x5000_0_2 a) (ix3 b i j) = a (ix2 b j) := by
    refine (broadcastInDim_apply _ _ _ _ (ix3 b 0 j) fun c => ?_).trans (broadcastInDim_apply _ _ _ _ (ix2 b j) fun c => ?_)
    · match c with
      | ⟨0, _⟩ => rfl
      | ⟨1, _⟩ => rfl
      | ⟨2, _⟩ => rfl
    · match c with
      | ⟨0, _⟩ => rfl
      | ⟨1, _⟩ => rfl
  exact congrArg₂ (fun u w : EReal => Ideal.div u w) (interOf_apply v b i j) (congrArg₂ (fun u w : EReal => u - w)
    (congrArg₂ (fun u w : EReal => u + w) hi hj) (interOf_apply v b i j))

/-- Boxes and classes of detections give the overlaps of these detections. -/
theorem iou_eq (v : FVec Ideal S4x5000x4 .f32) (k : FVec Ideal S4x5000 .f32) (b : Fin 4) (D : Fin 5000 → Pure.Det)
    (hv : ∀ n c, v (ix3 b n c) = corner (D n) c) (hk : ∀ n, k (ix2 b n) = Pure.clsF (D n)) (i j : Fin 5000) :
    iouOf (maximumf (broadcastInDim S4x5000x5000x2 ![] bcast_S_S4x5000x5000x2 (id (constant S_ .f32 0x00000000#32)))
      (overlapOf (movedOf v k))) (areaOf (movedOf v k)) (ix3 b i j) = Pure.iou (Pure.box (D i)) (Pure.box (D j)) := by
  have hm : ∀ n c, movedOf v k (ix3 b n c) = corner (D n) c + Pure.shift (D n) := fun n c => by
    rw [movedOf_apply, hv, hk]; rfl
  have ha : ∀ n, areaOf (movedOf v k) (ix2 b n) = (Pure.box (D n)).ar := fun n => by
    rw [areaOf_apply, hm, hm, hm, hm]; rfl
  have hs : ∀ (e : Fin 2) (p q : Fin 4), p.val = e.val → q.val = 2 + e.val →
      maximumf (broadcastInDim S4x5000x5000x2 ![] bcast_S_S4x5000x5000x2 (id (constant S_ .f32 0x00000000#32)))
        (overlapOf (movedOf v k)) (ix4 b i j e) = max (min (corner (D i) q + Pure.shift (D i)) (corner (D j) q + Pure.shift (D j))
          - max (corner (D i) p + Pure.shift (D i)) (corner (D j) p + Pure.shift (D j))) 0 := fun e p q hp hq => by
    rw [← hm, ← hm, ← hm, ← hm, ← overlapOf_apply _ b i j e p q hp hq]
    exact (congrArg (fun u : EReal => max u _) Ideal.ofBits_zero_f32).trans (max_comm _ _)
  rw [iouOf_apply, ha, ha, hs 0 0 2 rfl rfl, hs 1 1 3 rfl rfl]
  rfl

end Cert.Proof.RI

end
-- ==== Proof.RI.Sorts.lean ====
/-
  The reference's two sorts, read at a place: the order of the detections by score, and the best three hundred.
-/
module

public import proofs.«01_k».proof.Proof.RI.Reads
public import proofs.«01_k».proof.Proof.Pure.Order
public import Idealize.ShloMosaic.PureOps.Ideal.Laws
public import Idealize.ShloMosaic.Lib.SortFacts
public import Idealize.ShloMosaic.Lib.ValueIdx
public import Idealize.ShloMosaic.Lib.Pipeline.Value

@[expose] public section

set_option maxRecDepth 16384

noncomputable section

namespace Cert.Proof.RI

open Cert.ReferenceIdeal Cert.ReferenceIdeal.Gen
open Idealize.ShloMosaic Idealize.ShloMosaic.ValueIdx

/-- Another place in the same image. -/
theorem along_eq (b : Fin 4) (i k : Fin 5000) : Shape.Idx.along (s := S4x5000) (ix2 b i) 1 k = ix2 b k := by
  funext a
  match a with
  | ⟨0, _⟩ => exact Function.update_of_ne (Fin.ne_of_val_ne Nat.zero_ne_one) _ _
  | ⟨1, _⟩ => exact Function.update_self _ _ _

open Classical in
/-- The order of an image's detections by a value that grows. -/
def upward (f : Fin 5000 → EReal) : Fin 5000 → Fin 5000 := sortedFrom fun k l => decide (f k < f l)

open Classical in
/-- The order of an image's detections by a value that falls. -/
def downward (f : Fin 5000 → EReal) : Fin 5000 → Fin 5000 := sortedFrom fun k l => decide (f l < f k)

/-- The bit of a decided statement is set when it holds. -/
theorem bit_eq (p : Prop) [Decidable p] : (BitVec.ofBool (decide p) == 1#1) = decide p := by
  by_cases h : p <;> simp [h]

/-- The comparison the sort goes by. -/
theorem comparator_eq (p q : EReal × BitVec 32) : comparator_f32_i32_d1 (F := Ideal) p q = BitVec.ofBool (decide (p.1 < q.1)) := by
  have z : ∀ a : EReal, Scalar.select (BitVec.ofBool (decide (a ≠ a))) (Ideal.ofBits .f32 0x7FC00000#32)
      (Scalar.select (BitVec.ofBool (decide (a = Ideal.ofBits .f32 0x00000000#32))) (Ideal.ofBits .f32 0x00000000#32) a) = a := fun a => by
    unfold Scalar.select
    rw [decide_eq_false (not_not.mpr rfl), if_neg (by decide)]
    by_cases h : a = Ideal.ofBits .f32 0x00000000#32
    · rw [decide_eq_true h]; exact h.symm
    · rw [decide_eq_false h]; rfl
  have e : comparator_f32_i32_d1 (F := Ideal) p q = BitVec.ofBool (decide
      (Scalar.select (BitVec.ofBool (decide (p.1 ≠ p.1))) (Ideal.ofBits .f32 0x7FC00000#32)
        (Scalar.select (BitVec.ofBool (decide (p.1 = Ideal.ofBits .f32 0x00000000#32))) (Ideal.ofBits .f32 0x00000000#32) p.1)
      < Scalar.select (BitVec.ofBool (decide (q.1 ≠ q.1))) (Ideal.ofBits .f32 0x7FC00000#32)
        (Scalar.select (BitVec.ofBool (decide (q.1 = Ideal.ofBits .f32 0x00000000#32))) (Ideal.ofBits .f32 0x00000000#32) q.1))) := rfl
  rw [e]
  simp only [z]

/-- The number of a detection, read at it. -/
theorem places_apply (b : Fin 4) (k : Fin 5000) : places (ix2 b k) = BitVec.ofNat 32 k.val := by
  unfold places
  refine (broadcastInDim_apply _ _ _ _ (ix1 k) fun a => ?_).trans rfl
  match a with
  | ⟨0, _⟩ => rfl

/-- One of the first three hundred places. -/
def place (j : Fin 300) : Fin 5000 := ⟨j.val, by omega⟩

/-- The sorting order, read at a place. -/
theorem orderOf_apply (v : FVec Ideal S4x5000 .f32) (b : Fin 4) (i : Fin 5000) :
    orderOf v (ix2 b i) = BitVec.ofNat 32 (upward (fun k => v (ix2 b k)) i).val := by
  have e : orderOf v (ix2 b i) = places (Shape.Idx.along (s := S4x5000) (ix2 b i) 1 (sortedFrom (fun k l =>
    comparator_f32_i32_d1 (F := Ideal) (v (Shape.Idx.along (s := S4x5000) (ix2 b i) 1 k), places (Shape.Idx.along (s := S4x5000) (ix2 b i) 1 k))
      (v (Shape.Idx.along (s := S4x5000) (ix2 b i) 1 l), places (Shape.Idx.along (s := S4x5000) (ix2 b i) 1 l)) == 1#1) i)) := rfl
  have f : (fun k l : Fin 5000 =>
    comparator_f32_i32_d1 (F := Ideal) (v (Shape.Idx.along (s := S4x5000) (ix2 b i) 1 k), places (Shape.Idx.along (s := S4x5000) (ix2 b i) 1 k))
      (v (Shape.Idx.along (s := S4x5000) (ix2 b i) 1 l), places (Shape.Idx.along (s := S4x5000) (ix2 b i) 1 l)) == 1#1)
      = fun k l => decide ((v (ix2 b k) : EReal) < v (ix2 b l)) := by
    funext k l
    rw [comparator_eq, along_eq, along_eq]
    exact bit_eq _
  refine e.trans ((congrArg (fun g : Fin 5000 → Fin 5000 → Bool => places (Shape.Idx.along (s := S4x5000) (ix2 b i) 1 (sortedFrom g i))) f).trans
    ((congrArg places (along_eq b i _)).trans ?_))
  exact places_apply b _

/-- The best three hundred, read at a place. -/
theorem bestOf_apply (v : FVec Ideal S4x5000 .f32) (b : Fin 4) (j : Fin 300) :
    (bestOf v).2 (ix2 b j) = BitVec.ofNat 32 (downward (fun k => v (ix2 b k)) (place j)).val ∧
      (bestOf v).1 (ix2 b j) = v (ix2 b (downward (fun k => v (ix2 b k)) (place j))) := by
  have f : (fun k l : Fin 5000 => FloatOps.cmpfTotal (F := Ideal) .gt (v (Shape.Idx.along (s := S4x5000) (ix2 b (place j)) 1 k))
      (v (Shape.Idx.along (s := S4x5000) (ix2 b (place j)) 1 l)) == 1#1) = fun k l => decide ((v (ix2 b l) : EReal) < v (ix2 b k)) := by
    funext k l
    rw [along_eq, along_eq]
    exact bit_eq _
  have cut : ∀ {α : Type} (w : S4x5000.Idx → α), extractStridedSlice S4x300 (fun _ => 0) w sliceFits_S4x5000_S4x300 (ix2 b j)
      = w (ix2 b (place j)) := fun w => extractStridedSlice_apply _ _ _ _ _ fun a => by
    match a with
    | ⟨0, _⟩ => show b.val = 0 + b.val; omega
    | ⟨1, _⟩ => show j.val = 0 + j.val; omega
  have e : ∀ {β : Type} (w : S4x5000.Idx → β), w (Shape.Idx.along (s := S4x5000) (ix2 b (place j)) 1 (sortedFrom
      (fun k l : Fin 5000 => FloatOps.cmpfTotal (F := Ideal) .gt (v (Shape.Idx.along (s := S4x5000) (ix2 b (place j)) 1 k))
        (v (Shape.Idx.along (s := S4x5000) (ix2 b (place j)) 1 l)) == 1#1) (place j)))
      = w (ix2 b (downward (fun k => v (ix2 b k)) (place j))) := fun w =>
    (congrArg (fun g : Fin 5000 → Fin 5000 → Bool => w (Shape.Idx.along (s := S4x5000) (ix2 b (place j)) 1
      (sortedFrom g (place j)))) f).trans (congrArg w (along_eq b _ _))
  constructor
  · refine (cut (Host.sort2 S4x5000 1 (fun l r : Ideal .f32 × BitVec 32 => FloatOps.cmpfTotal .gt l.1 r.1) v
      (iotaInDim S4x5000 32 1)).2).trans ?_
    exact e (iotaInDim S4x5000 32 1)
  · refine (cut (Host.sort2 S4x5000 1 (fun l r : Ideal .f32 × BitVec 32 => FloatOps.cmpfTotal .gt l.1 r.1) v
      (iotaInDim S4x5000 32 1)).1).trans ?_
    exact e v

/-- The order by the scores turned around is the order of the detections. -/
theorem ordered (D : Fin 5000 → Pure.Det) : Pure.Ordered D (upward fun i => -Pure.score (D i)) where
  inj := sortedFrom_injective _
  surj := sortedFrom_surjective _
  ahead := Pure.ahead_sortedFrom (fun i => Pure.score (D i)) _ fun a c => by
    rw [decide_eq_true_iff]; exact EReal.neg_lt_neg_iff

end Cert.Proof.RI

end
-- ==== Proof.RI.InOrder.lean ====
/-
  The reference's arrays in the order of the scores, entry by entry.
-/
module

public import proofs.«01_k».proof.Proof.RI.Entry
public import proofs.«01_k».proof.Proof.RI.Gather
public import proofs.«01_k».proof.Proof.RI.Classes
public import proofs.«01_k».proof.Proof.RI.Boxes
public import proofs.«01_k».proof.Proof.RI.Sorts

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo Idealize.ShloMosaic.ValueIdx

variable (x : FVec Ideal S4x5000x85 .f32) (b : Fin 4)

/-- The detections of an image. -/
def detsX : Fin 5000 → Pure.Det := fun i e => x (ix3 b i e)

/-- The order of the detections of an image. -/
def orderS : Fin 5000 → Fin 5000 := upward fun i => -Pure.score (detsX x b i)

/-- The order is one by score. -/
theorem orderS_ordered : Pure.Ordered (detsX x b) (orderS x b) := ordered (detsX x b)

/-- A value put everywhere is at every entry. -/
theorem everywhere_apply (z : S4x5000.Idx) : (everywhere (constant S_ .f32 0xFF800000#32 : FVec Ideal S_ .f32) z : EReal) = ⊥ := low_eq

/-- The score whether or not valid. -/
theorem rawScore_apply (n : Fin 5000) : (rawScore x (ix2 b n) : EReal) = detsX x b n 4 * Pure.best (detsX x b n) 79 :=
  congrArg₂ (fun u w : EReal => u * w) (objOf_apply x b n) (topOf_apply x b n)

/-- The score. -/
theorem scoreOf_apply (n : Fin 5000) : (scoreOf x (ix2 b n) : EReal) = Pure.score (detsX x b n) := by
  have e : (scoreOf x (ix2 b n) : EReal)
      = if validOf x (ix2 b n) = 1 then (rawScore x (ix2 b n) : EReal) else everywhere (constant S_ .f32 0xFF800000#32 : FVec Ideal S_ .f32) (ix2 b n) := rfl
  rw [e, rawScore_apply, everywhere_apply]
  unfold Pure.score
  by_cases h : Pure.Valid (detsX x b n)
  · exact (if_pos ((validOf_apply x b n).mpr h)).trans (if_pos h).symm
  · exact (if_neg fun h' => h ((validOf_apply x b n).mp h')).trans (if_neg h).symm

/-- The class as a number. -/
theorem classF_apply (n : Fin 5000) : (classF x (ix2 b n) : EReal) = Pure.clsF (detsX x b n) := by
  show (((classOf (confOf x) (ix2 b n)).toInt : ℝ) : EReal) = _
  rw [classOf_apply]
  rfl

/-- The order as the array of row numbers. -/
theorem orderX_apply (i : Fin 5000) : orderX x (ix3 b i 0) = BitVec.ofNat 32 (orderS x b i).val := by
  refine rowsOf_apply _ b i _ ((orderOf_apply _ b i).trans ?_)
  refine congrArg (fun f => BitVec.ofNat 32 (upward f i).val) (funext fun k => ?_)
  show -(scoreOf x (ix2 b k) : EReal) = _
  rw [scoreOf_apply]

/-- An attribute in order. -/
theorem inOrder_apply {α : Type} (v : S4x5000.Idx → α) (i : Fin 5000) : inOrder v (orderX x) (ix2 b i) = v (ix2 b (orderS x b i)) :=
  gather1_apply v _ b i _ (orderX_apply x b i)

/-- The boxes in order. -/
theorem boxesX_apply (i : Fin 5000) (k : Fin 4) : boxesX x (ix3 b i k) = corner (detsX x b (orderS x b i)) k :=
  (gather4_apply (boxesOf x) _ b i k _ (orderX_apply x b i)).trans (boxesOf_apply x b _ k)

/-- The overlaps in order. -/
theorem iouX_apply (i j : Fin 5000) : (iouX x (ix3 b i j) : EReal)
    = Pure.iou (Pure.box (detsX x b (orderS x b i))) (Pure.box (detsX x b (orderS x b j))) :=
  iou_eq (boxesX x) (inOrder (classF x) (orderX x)) b (fun i => detsX x b (orderS x b i)) (boxesX_apply x b)
    (fun n => (inOrder_apply x b _ n).trans (classF_apply x b _)) i j

end Cert.Proof.RI

end
-- ==== Proof.RI.Turn.lean ====
/-
  One turn of the reference's loop, read at a detection: the one whose turn it is strikes out the later ones it overlaps, unless it
  is itself struck out.
-/
module

public import proofs.«01_k».proof.Proof.RI.Gather
public import proofs.«01_k».proof.Proof.Pure.Nms
public import Idealize.ShloMosaic.PureOps.Ideal.Laws
public import Idealize.ShloMosaic.Lib.ValueIdx
public import Idealize.ShloMosaic.Lib.DynamicIndex
public import Idealize.ShloMosaic.Lib.Pipeline.Value

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo Idealize.ShloMosaic.ValueIdx

/-- Where a slice starts along an axis of extent `n`. -/
def startOf (n : BitVec 32) (k : IVec S_ 32) : IVec S_ 32 := select (cmpi .slt k (constantI S_ 32 0#32)) (addi k (constantI S_ 32 n)) k

/-- The start along an axis taken whole. -/
def wholeOf (n : BitVec 32) : IVec S_ 32 := startOf n (constantI S_ 32 0#32)

/-- The row of overlaps of the detection whose turn it is. -/
def lineOf (M : FVec Ideal S4x5000x5000 .f32) (k : IVec S_ 32) : FVec Ideal S4x5000 .f32 :=
  shapeCast S4x5000 (Host.dynamicSlice S4x1x5000 M (fun a => ((![wholeOf 4#32, startOf 5000#32 k, wholeOf 5000#32] : Fin 3 → IVec S_ 32) a
    (Shape.Idx.first h_S_)).toInt) sliceFits_S4x5000x5000_S4x1x5000) shapeCasts_S4x1x5000_S4x5000

/-- Whether the detection whose turn it is is struck out, at every detection. -/
def goneOf (s : IVec S4x5000 1) (k : IVec S_ 32) : IVec S4x5000 1 :=
  broadcastInDim S4x5000 ![0, 1] bcast_S4x1_S4x5000_0_1 (broadcastInDim S4x1 ![0] bcast_S4_S4x1_0 (shapeCast S4
    (Host.dynamicSlice S4x1 s (fun a => ((![wholeOf 4#32, startOf 5000#32 k] : Fin 2 → IVec S_ 32) a
      (Shape.Idx.first h_S_)).toInt) sliceFits_S4x5000_S4x1) shapeCasts_S4x1_S4))

/-- Whether a detection comes after the one whose turn it is. -/
def laterOf (N : IVec S5000 32) (k : IVec S_ 32) : IVec S4x5000 1 :=
  broadcastInDim S4x5000 ![0, 1] bcast_S1x5000_S4x5000_0_1 (broadcastInDim S1x5000 ![1] bcast_S5000_S1x5000_1
    (cmpi .sgt N (broadcastInDim S5000 ![] bcast_S_S5000 (id k))))

/-- The struck out after the turn. -/
def turnOf (M : FVec Ideal S4x5000x5000 .f32) (N : IVec S5000 32) (k : IVec S_ 32) (s : IVec S4x5000 1) : IVec S4x5000 1 :=
  select (goneOf s k) s (ori s (andi (cmpf .ogt (lineOf M k) (broadcastInDim S4x5000 ![] bcast_S_S4x5000 (constant S_ .f32 0x3F000000#32)))
    (laterOf N k)))

/-- What a turn of the loop leaves is that. -/
theorem step_eq (V : Vals) : step_main_v112_4 V = turnOf (V (Proc.devRef .tc main_v112_0)) (V (Proc.devRef .tc main_v112_1))
    (V (Proc.devRef .tc main_v112_3)) (V (Proc.devRef .tc main_v112_4)) := rfl

/-- A word below the count, read signed. -/
theorem word_toInt {n : ℕ} (h : n < 5000) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The start along the axis of the detections. -/
theorem startOf_toInt {k : IVec S_ 32} {i : Fin 5000} (hk : ∀ z, k z = BitVec.ofNat 32 i.val) (z : S_.Idx) :
    (startOf 5000#32 k z).toInt = (i.val : ℤ) := by
  have e : startOf 5000#32 k z = BitVec.ofNat 32 i.val := not_end (hk z)
  rw [e, word_toInt i.isLt]

section Turn

variable {k : IVec S_ 32} {i : Fin 5000} (hk : ∀ z, k z = BitVec.ofNat 32 i.val)

include hk

/-- The row of overlaps, read at a detection. -/
theorem lineOf_apply (M : FVec Ideal S4x5000x5000 .f32) (b : Fin 4) (p : Fin 5000) : lineOf M k (ix2 b p) = M (ix3 b i p) := by
  unfold lineOf
  refine (shapeCast_apply _ _ _ (ix3 b 0 p) (by
    rw [Shape.rowMajor_val_two, Shape.rowMajor_val_three]
    show (b.val * 1 + 0) * 5000 + p.val = b.val * 5000 + p.val
    omega)).trans ?_
  have hs : S4x5000x5000.Slices ![0, i.val, 0] S4x1x5000 := ⟨rfl, fun a => by
    have := i.isLt
    match a with
    | ⟨0, _⟩ => show 0 + 4 ≤ 4; omega
    | ⟨1, _⟩ => show i.val + 1 ≤ 5000; omega
    | ⟨2, _⟩ => show 0 + 5000 ≤ 5000; omega⟩
  refine (congrFun (Host.dynamicSlice_eq_extractStridedSlice S4x1x5000 M _ ![0, i.val, 0] sliceFits_S4x5000x5000_S4x1x5000 hs fun a => ?_) _).trans ?_
  · match a with
    | ⟨0, _⟩ => rfl
    | ⟨1, _⟩ => exact startOf_toInt hk _
    | ⟨2, _⟩ => rfl
  · refine extractStridedSlice_apply _ _ _ _ _ fun a => ?_
    match a with
    | ⟨0, _⟩ => show b.val = 0 + b.val; omega
    | ⟨1, _⟩ => show i.val = i.val + 0; omega
    | ⟨2, _⟩ => show p.val = 0 + p.val; omega

/-- Whether the detection whose turn it is is struck out. -/
theorem goneOf_apply (s : IVec S4x5000 1) (b : Fin 4) (p : Fin 5000) : goneOf s k (ix2 b p) = s (ix2 b i) := by
  unfold goneOf
  refine (broadcastInDim_apply _ _ _ _ (ix2 b 0) fun a => ?_).trans ((broadcastInDim_apply _ _ _ _ (ix1 b) fun a => ?_).trans ?_)
  · match a with
    | ⟨0, _⟩ => rfl
    | ⟨1, _⟩ => rfl
  · match a with
    | ⟨0, _⟩ => rfl
  · refine (shapeCast_apply _ _ _ (ix2 b 0) (by
      rw [Shape.rowMajor_val_two, Shape.rowMajor_val_one]
      show b.val * 1 + 0 = b.val
      omega)).trans ?_
    have hs : S4x5000.Slices ![0, i.val] S4x1 := ⟨rfl, fun a => by
      have := i.isLt
      match a with
      | ⟨0, _⟩ => show 0 + 4 ≤ 4; omega
      | ⟨1, _⟩ => show i.val + 1 ≤ 5000; omega⟩
    refine (congrFun (Host.dynamicSlice_eq_extractStridedSlice S4x1 s _ ![0, i.val] sliceFits_S4x5000_S4x1 hs fun a => ?_) _).trans ?_
    · match a with
      | ⟨0, _⟩ => rfl
      | ⟨1, _⟩ => exact startOf_toInt hk _
    · refine extractStridedSlice_apply _ _ _ _ _ fun a => ?_
      match a with
      | ⟨0, _⟩ => show b.val = 0 + b.val; omega
      | ⟨1, _⟩ => show i.val = i.val + 0; omega

/-- Whether a detection comes later. -/
theorem laterOf_apply (b : Fin 4) (p : Fin 5000) : laterOf (iotaInDim S5000 32 0) k (ix2 b p) = BitVec.ofBool (decide (i.val < p.val)) := by
  unfold laterOf
  refine (broadcastInDim_apply _ _ _ _ (ix2 0 p) fun a => ?_).trans ((broadcastInDim_apply _ _ _ _ (ix1 p) fun a => ?_).trans ?_)
  · match a with
    | ⟨0, _⟩ => rfl
    | ⟨1, _⟩ => rfl
  · match a with
    | ⟨0, _⟩ => rfl
  · have e : cmpi .sgt (iotaInDim S5000 32 0) (broadcastInDim S5000 ![] bcast_S_S5000 (id k)) (ix1 p)
        = BitVec.ofBool ((broadcastInDim S5000 ![] bcast_S_S5000 (id k) (ix1 p)).slt (BitVec.ofNat 32 p.val)) := rfl
    have ek : broadcastInDim S5000 ![] bcast_S_S5000 (id k) (ix1 p) = BitVec.ofNat 32 i.val := hk _
    rw [e, ek, BitVec.slt_eq_decide, word_toInt i.isLt, word_toInt p.isLt]
    simp only [Nat.cast_lt]

/-- The struck out after the turn. -/
theorem turnOf_apply (M : FVec Ideal S4x5000x5000 .f32) (s : IVec S4x5000 1) (b : Fin 4) (p : Fin 5000) :
    turnOf M (iotaInDim S5000 32 0) k s (ix2 b p) = 1#1 ↔
      s (ix2 b p) = 1#1 ∨ s (ix2 b i) ≠ 1#1 ∧ Ideal.ofBits .f32 0x3F000000#32 < (M (ix3 b i p) : EReal) ∧ i.val < p.val := by
  have e : turnOf M (iotaInDim S5000 32 0) k s (ix2 b p) = Scalar.select (goneOf s k (ix2 b p)) (s (ix2 b p))
      (s (ix2 b p) ||| (BitVec.ofBool (decide (Ideal.ofBits .f32 0x3F000000#32 < lineOf M k (ix2 b p)))
        &&& laterOf (iotaInDim S5000 32 0) k (ix2 b p))) := rfl
  rw [e, goneOf_apply hk, lineOf_apply hk, laterOf_apply hk]
  have bits : ∀ u : BitVec 1, ∀ c d : Bool, (u ||| (BitVec.ofBool c &&& BitVec.ofBool d)) = 1#1 ↔ u = 1#1 ∨ c = true ∧ d = true := by decide
  unfold Scalar.select
  split
  · rename_i h
    exact ⟨.inl, fun h' => h'.elim id fun h' => absurd h h'.1⟩
  · rename_i h
    rw [bits, decide_eq_true_iff, decide_eq_true_iff]
    exact ⟨fun h' => h'.imp id fun h' => ⟨h, h'⟩, fun h' => h'.imp id fun h' => h'.2⟩

end Turn

end Cert.Proof.RI

end
-- ==== Proof.RI.Final.lean ====
/-
  What the reference's result holds at the end, as a function of the argument.
-/
module

public import proofs.«01_k».proof.Proof.RI.Entry
public import proofs.«01_k».proof.Proof.RI.Turn
public import proofs.«01_k».proof.Proof.RI.Frame

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo

/-- A number as a turn. -/
def turnNo (k : ℕ) : IVec S_ 32 := fun _ => BitVec.ofNat 32 k

/-- The struck out after some turns. -/
def struckOf (M : FVec Ideal S4x5000x5000 .f32) (s : IVec S4x5000 1) : ℕ → IVec S4x5000 1
  | 0 => s
  | k + 1 => turnOf M (iotaInDim S5000 32 0) (turnNo k) (struckOf M s k)

/-- The scores of the detections in order, minus infinity at those not left. -/
def leftOf (x : FVec Ideal S4x5000x85 .f32) : FVec Ideal S4x5000 .f32 :=
  select (andi (inOrder (validOf x) (orderX x)) (noti (struckOf (iouX x) (noti (inOrder (validOf x) (orderX x))) 5000)))
    (inOrder (rawScore x) (orderX x)) (everywhere (constant S_ .f32 0xFF800000#32))

/-- The turn after a turn. -/
theorem turnNo_succ (k : ℕ) : addi (turnNo k) (constantI S_ 32 1#32) = turnNo (k + 1) := by
  funext z
  show BitVec.ofNat 32 k + 1#32 = BitVec.ofNat 32 (k + 1)
  rw [BitVec.ofNat_add]

/-- The buffers the loop carries, after some turns. -/
theorem step_iterate (V : Vals) (k : ℕ) : STEP^[k] (s9 V) (Proc.devRef .tc main_v112_0) = iouX (argOf V) ∧
    STEP^[k] (s9 V) (Proc.devRef .tc main_v112_1) = iotaInDim S5000 32 0 ∧ STEP^[k] (s9 V) (Proc.devRef .tc main_v112_3) = turnNo k ∧
    STEP^[k] (s9 V) (Proc.devRef .tc main_v112_4)
      = struckOf (iouX (argOf V)) (noti (inOrder (validOf (argOf V)) (orderX (argOf V)))) k := by
  induction k with
  | zero => exact ⟨s9_v112_0 V, s9_v112_1 V, s9_v112_3 V, s9_v112_4 V⟩
  | succ k ih =>
    obtain ⟨h0, h1, h3, h4⟩ := ih
    rw [Function.iterate_succ_apply']
    refine ⟨(STEP_main_v112_0 _).trans h0, (STEP_main_v112_1 _).trans h1, (STEP_main_v112_3 _).trans ?_, (STEP_main_v112_4 _).trans ?_⟩
    · unfold step_main_v112_3
      rw [h3]
      exact turnNo_succ k
    · rw [step_eq, h0, h1, h3, h4]
      rfl

variable (m : (ℓ : Loc nD τ sig) → Buf (Elt Ideal) ℓ) (c : Dev nD)

/-- The contents when the device starts. -/
def startOfRun : Vals := fun r => m (c, r)

/-- What the loop does not write it keeps. -/
theorem atK_keep (r : Ref sig .tc) (hc : r ∉ condOps_W) (h0 : r ∉ while0Ops0_W) (h1 : r ∉ while0Ops0_1_W) (h2 : r ∉ while0Ops0_2_W) :
    ∀ k, atK m k c (Proc.devRef .tc r) = s9 (startOfRun m c) (Proc.devRef .tc r)
  | 0 => rfl
  | k + 1 => ((after_of_writes_sub _ _ while0Ops0_2_writes h2).trans ((after_of_writes_sub _ _ while0Ops0_1_writes h1).trans
      ((after_of_writes_sub _ _ while0Ops0_writes h0).trans (after_of_writes_sub _ _ condOps_writes hc)))).trans
        (atK_keep r hc h0 h1 h2 k)

/-- The contents when the loop has ended. -/
def loopEnd : Vals := after condOps (atK m 5000 c)

/-- What the loop does not write is at its end as when it began. -/
theorem loopEnd_keep (r : Ref sig .tc) (hc : r ∉ condOps_W) (h0 : r ∉ while0Ops0_W) (h1 : r ∉ while0Ops0_1_W) (h2 : r ∉ while0Ops0_2_W) :
    loopEnd m c (Proc.devRef .tc r) = s9 (startOfRun m c) (Proc.devRef .tc r) :=
  (after_of_writes_sub _ _ condOps_writes hc).trans (atK_keep m c r hc h0 h1 h2 5000)

/-- The struck out when the loop has ended. -/
theorem loopEnd_struck : loopEnd m c (Proc.devRef .tc main_v112_4)
    = struckOf (iouX (argOf (startOfRun m c))) (noti (inOrder (validOf (argOf (startOfRun m c))) (orderX (argOf (startOfRun m c))))) 5000 :=
  (cond_keeps (atK m 5000 c) main_v112_4 (by decide)).trans ((atK_agree m c 5000 main_v112_4 (by decide)).trans
    (step_iterate (startOfRun m c) 5000).2.2.2)

/-- The stretch after the loop keeps the scores in order. -/
theorem keep9_v51 (V : Vals) : after hostOps0_9 V (Proc.devRef .tc main_v51) = V (Proc.devRef .tc main_v51) := by
  after_reads_simp

/-- The two stretches after the loop keep the boxes in order. -/
theorem keep_v44 (V : Vals) : after hostOps0_10 (after hostOps0_9 V) (Proc.devRef .tc main_v44) = V (Proc.devRef .tc main_v44) := by
  after_reads_simp

/-- The two stretches after the loop keep the scores in order. -/
theorem keep_v51 (V : Vals) : after hostOps0_10 (after hostOps0_9 V) (Proc.devRef .tc main_v51) = V (Proc.devRef .tc main_v51) := by
  after_reads_simp

/-- The two stretches after the loop keep the classes in order. -/
theorem keep_v58 (V : Vals) : after hostOps0_10 (after hostOps0_9 V) (Proc.devRef .tc main_v58) = V (Proc.devRef .tc main_v58) := by
  after_reads_simp

/-- What the reference leaves, from its argument. -/
def tableOf (x : FVec Ideal S4x5000x85 .f32) : FVec Ideal S4x300x6 .f32 :=
  resultOf (boxesX x) (inOrder (rawScore x) (orderX x)) (inOrder (classF x) (orderX x)) (leftOf x)

/-- The result at the end. -/
theorem final_v145 : finalContents condOps preI bodyI postI 5000 m c (Proc.devRef .tc main_v145) = tableOf (argOf (startOfRun m c)) := by
  have h44 := (loopEnd_keep m c main_v44 (by decide +kernel) (by decide +kernel) (by decide +kernel) (by decide +kernel)).trans (s9_v44 _)
  have h51 := (loopEnd_keep m c main_v51 (by decide +kernel) (by decide +kernel) (by decide +kernel) (by decide +kernel)).trans (s9_v51 _)
  have h58 := (loopEnd_keep m c main_v58 (by decide +kernel) (by decide +kernel) (by decide +kernel) (by decide +kernel)).trans (s9_v58 _)
  have h65 := (loopEnd_keep m c main_v65 (by decide +kernel) (by decide +kernel) (by decide +kernel) (by decide +kernel)).trans (s9_v65 _)
  have h112 := loopEnd_struck m c
  have e : finalContents condOps preI bodyI postI 5000 m c
      = after hostOps0_11 (after hostOps0_10 (after hostOps0_9 (loopEnd m c))) := rfl
  rw [e, read_v145, (keep_v44 _).trans h44, (keep_v51 _).trans h51, (keep_v58 _).trans h58, read_v115, read_v114, read_cst_17, keep9_v51, h51, h65, h112]
  rfl

end Cert.Proof.RI

end
-- ==== Proof.RI.Struck.lean ====
/-
  What the reference's loop strikes out, and the scores left after it, entry by entry.
-/
module

public import proofs.«01_k».proof.Proof.RI.InOrder
public import proofs.«01_k».proof.Proof.RI.Final
public import proofs.«01_k».proof.Proof.Pure.Order

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo Idealize.ShloMosaic.ValueIdx

variable (x : FVec Ideal S4x5000x85 .f32) (b : Fin 4)

/-- Not of a bit. -/
theorem noti_apply (s : IVec S4x5000 1) (z : S4x5000.Idx) : noti s z = 1#1 ↔ s z ≠ 1#1 := by
  show ~~~ s z = 1#1 ↔ _
  generalize s z = w
  revert w
  decide

/-- Valid, in order. -/
theorem valid_apply (p : Fin 5000) : inOrder (validOf x) (orderX x) (ix2 b p) = 1#1 ↔ Pure.Valid (detsX x b (orderS x b p)) := by
  rw [inOrder_apply]
  exact validOf_apply x b _

/-- The struck out after some turns. -/
theorem struckOf_apply (k : ℕ) (hk : k ≤ 5000) (p : Fin 5000) :
    struckOf (iouX x) (noti (inOrder (validOf x) (orderX x))) k (ix2 b p) = 1#1
      ↔ Pure.Sup (Pure.Out (detsX x b) (orderS x b)) (Pure.Strikes (detsX x b) (orderS x b)) k p := by
  induction k generalizing p with
  | zero =>
    refine (noti_apply _ _).trans ?_
    exact not_congr (valid_apply x b p)
  | succ k ih =>
    have ih' := ih (by omega)
    refine (turnOf_apply (i := ⟨k, by omega⟩) (fun _ => rfl) _ _ b p).trans ?_
    rw [iouX_apply]
    refine or_congr (ih' p) ⟨fun h => ⟨⟨k, by omega⟩, rfl, ?_, h.2.1, h.2.2⟩, fun h => ?_⟩
    · exact (not_congr (ih' _)).mp h.1
    · obtain ⟨r, hr, h1, h2, h3⟩ := h
      have hrk : r = ⟨k, by omega⟩ := Fin.ext hr
      rw [hrk] at h1 h2
      exact ⟨(not_congr (ih' _)).mpr h1, h2, h3⟩

/-- The kept detections, in order. -/
abbrev KeptX (p : Fin 5000) : Prop :=
  Pure.Kept (Pure.Scored (detsX x b) (orderS x b)) (Pure.Out (detsX x b) (orderS x b)) (Pure.Strikes (detsX x b) (orderS x b)) p

/-- Both of two bits. -/
theorem andi_apply (s t : IVec S4x5000 1) (z : S4x5000.Idx) : andi s t z = 1#1 ↔ s z = 1#1 ∧ t z = 1#1 := by
  show s z &&& t z = 1#1 ↔ _
  generalize s z = w, t z = w'
  revert w w'
  decide

/-- The score, valid or not, in order. -/
theorem rawOrder_apply (p : Fin 5000) (h : Pure.Valid (detsX x b (orderS x b p))) :
    (inOrder (rawScore x) (orderX x) (ix2 b p) : EReal) = Pure.score (detsX x b (orderS x b p)) := by
  rw [inOrder_apply, rawScore_apply]
  unfold Pure.score
  rw [if_pos h]

/-- The score left at an entry, by cases. -/
theorem leftOf_cases (p : Fin 5000) : (leftOf x (ix2 b p) : EReal)
    = if andi (inOrder (validOf x) (orderX x)) (noti (struckOf (iouX x) (noti (inOrder (validOf x) (orderX x))) 5000)) (ix2 b p) = 1
      then (inOrder (rawScore x) (orderX x) (ix2 b p) : EReal) else everywhere (constant S_ .f32 0xFF800000#32 : FVec Ideal S_ .f32) (ix2 b p) := rfl

/-- The score left of a kept detection is its score. -/
theorem leftOf_kept (p : Fin 5000) (h : KeptX x b p) : (leftOf x (ix2 b p) : EReal) = Pure.score (detsX x b (orderS x b p)) := by
  have hv := Pure.valid_of_score h.1
  rw [leftOf_cases, if_pos, rawOrder_apply x b p hv]
  refine (andi_apply _ _ _).mpr ⟨(valid_apply x b p).mpr hv, (noti_apply _ _).mpr ?_⟩
  exact (not_congr (struckOf_apply x b 5000 le_rfl p)).mpr h.2

/-- The score left of any other is minus infinity. -/
theorem leftOf_not (p : Fin 5000) (h : ¬ KeptX x b p) : (leftOf x (ix2 b p) : EReal) = ⊥ := by
  rw [leftOf_cases]
  split_ifs with hc
  · obtain ⟨h1, h2⟩ := (andi_apply _ _ _).mp hc
    have hv := (valid_apply x b p).mp h1
    have hs := (not_congr (struckOf_apply x b 5000 le_rfl p)).mp ((noti_apply _ _).mp h2)
    rw [rawOrder_apply x b p hv]
    by_contra hne
    exact h ⟨bot_lt_iff_ne_bot.mpr hne, hs⟩
  · exact everywhere_apply _

end Cert.Proof.RI

end
-- ==== Proof.Pure.Top.lean ====
/-
  The best of the kept positions, taken by a stable sort: the sort of the scores, with every position that is not kept set
  to the bottom, lists the kept positions first and in order.
-/
module

public import proofs.«01_k».proof.Proof.Pure.Sort
public import proofs.«01_k».proof.Proof.Pure.Nms

@[expose] public section

open Idealize.ShloMosaic

namespace Cert.Proof.Pure

variable {n : ℕ} {init : Fin n → Prop} {K : Fin n → Fin n → Prop}

open Classical in
/-- A kept position lands where as many kept positions come before it. -/
theorem top_rank (s sel : Fin n → EReal) (hs : ∀ p r, p ≤ r → s r ≤ s p)
    (hk : ∀ p, Kept (fun p => ⊥ < s p) init K p → sel p = s p) (hn : ∀ p, ¬ Kept (fun p => ⊥ < s p) init K p → sel p = ⊥)
    (before : Fin n → Fin n → Bool) (hb : ∀ a b, before a b = true ↔ sel b < sel a) (j : Fin n)
    (q : Fin n) (hq : Kept (fun p => ⊥ < s p) init K q) :
    rank (fun p => ⊥ < s p) init K q.val = j.val ↔ sortedFrom before j = q := by
  have key : ∀ i : Fin n, sortedFrom before i = q → rank (fun p => ⊥ < s p) init K q.val = i.val := by
    intro i hi
    refine card_ahead sel before hb i _ fun p => ?_
    rw [hi]
    simp only [Finset.mem_filter, Finset.mem_univ, true_and]
    constructor
    · rintro ⟨hp, hlt⟩
      have hle := hs p q (Fin.le_def.mpr hlt.le)
      rw [← hk p hp, ← hk q hq] at hle
      rcases hle.lt_or_eq with h | h
      · exact Or.inl h
      · exact Or.inr ⟨h.symm, Fin.lt_def.mpr hlt⟩
    · intro h
      have hle : sel q ≤ sel p := by
        rcases h with h | h
        · exact h.le
        · exact h.1.ge
      have hp : Kept (fun p => ⊥ < s p) init K p := by
        by_contra hc
        rw [hn p hc, hk q hq] at hle
        exact absurd hq.1 (not_lt.mpr hle)
      refine ⟨hp, ?_⟩
      rcases h with h | h
      · by_contra hc
        have := hs q p (Fin.le_def.mpr (not_lt.mp hc))
        rw [← hk p hp, ← hk q hq] at this
        exact absurd h (not_lt.mpr this)
      · exact Fin.lt_def.mp h.2
  obtain ⟨i, hi⟩ := sortedFrom_surjective before q
  refine ⟨fun h => ?_, key j⟩
  rw [key i hi] at h
  rw [← Fin.ext h]
  exact hi

end Cert.Proof.Pure

end
-- ==== Proof.RI.Rows.lean ====
/-
  The rows of the reference's table.
-/
module

public import proofs.«01_k».proof.Proof.RI.Struck
public import proofs.«01_k».proof.Proof.Pure.Top

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo Idealize.ShloMosaic.ValueIdx

/-- A column put beside a table. -/
theorem column_one (b : Fin 4) (j : Fin 300) (w : FVec Ideal S4x300 .f32) : broadcastInDim S4x300x1 ![0, 1] bcast_S4x300_S4x300x1_0_1 w (ix3 b j 0) = w (ix2 b j) := by
  refine broadcastInDim_apply _ _ _ (ix3 b j 0) (ix2 b j) fun a => ?_
  match a with
  | ⟨0, _⟩ => rfl
  | ⟨1, _⟩ => rfl

section Raw

variable (v : FVec Ideal S4x5000x4 .f32) (s k : FVec Ideal S4x5000 .f32) (i : IVec S4x300x1 32) (b : Fin 4) (j : Fin 300) (n : Fin 5000)
  (h : i (ix3 b j 0) = BitVec.ofNat 32 n.val)

include h

/-- The box of a picked row. -/
theorem rawOf_box (c : Fin 4) : rawOf v s k i (ix3 b j (Fin.castLE (by decide) c)) = v (ix3 b n c) := by
  refine (concatenate_apply_piece (t := S4x300x6) 2 _ _ (ix3 b j (Fin.castLE (by decide) c)) 0 (by show 0 < 3; omega) S4x300x4 _ rfl rfl 0 rfl (ix3 b j c)
    (fun a ha => ?_) (by show 0 + c.val = c.val; omega)).trans (pick4_apply v i b j c n h)
  match a with
  | ⟨0, _⟩ => rfl
  | ⟨1, _⟩ => rfl
  | ⟨2, _⟩ => exact absurd rfl ha

/-- The score of a picked row. -/
theorem rawOf_score : rawOf v s k i (ix3 b j 4) = s (ix2 b n) := by
  refine (concatenate_apply_piece (t := S4x300x6) 2 _ _ (ix3 b j 4) 1 (by show 1 < 3; omega) S4x300x1 _ rfl rfl 4 rfl (ix3 b j 0)
    (fun a ha => ?_) rfl).trans ((column_one b j _).trans (pick1_apply s i b j n h))
  match a with
  | ⟨0, _⟩ => rfl
  | ⟨1, _⟩ => rfl
  | ⟨2, _⟩ => exact absurd rfl ha

/-- The class of a picked row. -/
theorem rawOf_class : rawOf v s k i (ix3 b j 5) = k (ix2 b n) := by
  refine (concatenate_apply_piece (t := S4x300x6) 2 _ _ (ix3 b j 5) 2 (by show 2 < 3; omega) S4x300x1 _ rfl rfl 5 rfl (ix3 b j 0)
    (fun a ha => ?_) rfl).trans ((column_one b j _).trans (pick1_apply k i b j n h))
  match a with
  | ⟨0, _⟩ => rfl
  | ⟨1, _⟩ => rfl
  | ⟨2, _⟩ => exact absurd rfl ha

end Raw

/-- A row blanked when its value is minus infinity. -/
theorem resultOf_apply (v : FVec Ideal S4x5000x4 .f32) (s k p : FVec Ideal S4x5000 .f32) (b : Fin 4) (j : Fin 300) (c : Fin 6) :
    (resultOf v s k p (ix3 b j c) : EReal) = rawOf v s k (pickedOf (bestOf p).2) (ix3 b j c) *
      (((BitVec.ofBool (decide (⊥ < ((bestOf p).1 (ix2 b j) : EReal)))).toNat : ℝ) : EReal) := by
  refine congrArg (fun w : EReal => rawOf v s k (pickedOf (bestOf p).2) (ix3 b j c) * w) ?_
  refine (broadcastInDim_apply _ _ _ (ix3 b j c) (ix3 b j 0) fun a => ?_).trans ?_
  · match a with
    | ⟨0, _⟩ => rfl
    | ⟨1, _⟩ => rfl
    | ⟨2, _⟩ => rfl
  · refine (column_one b j _).trans ?_
    have e : (FloatOps.ofBits .f32 0xFF800000#32 : Ideal .f32) = (⊥ : EReal) := low_eq
    show (((BitVec.ofBool (decide ((FloatOps.ofBits .f32 0xFF800000#32 : Ideal .f32) < ((bestOf p).1 (ix2 b j) : EReal)))).toNat : ℝ) : EReal) = _
    rw [e]

variable (x : FVec Ideal S4x5000x85 .f32) (b : Fin 4)

/-- The order the table is made in. -/
def tableOrder : Fin 5000 → Fin 5000 := downward fun k => leftOf x (ix2 b k)

/-- Which detection a row of the table is of. -/
theorem tableOrder_eq (j : Fin 300) (q : Fin 5000) (hq : KeptX x b q) :
    Pure.rank (Pure.Scored (detsX x b) (orderS x b)) (Pure.Out (detsX x b) (orderS x b)) (Pure.Strikes (detsX x b) (orderS x b)) q.val = j.val
      ↔ tableOrder x b (place j) = q :=
  Pure.top_rank (fun p => Pure.score (detsX x b (orderS x b p))) (fun p => leftOf x (ix2 b p)) (fun _ _ h => (orderS_ordered x b).le h)
    (leftOf_kept x b) (leftOf_not x b) _ (fun _ _ => decide_eq_true_iff) (place j) q hq

/-- An entry of the table, before blanking, of the detection at its row. -/
theorem raw_row (j : Fin 300) (n : Fin 5000) (hn : KeptX x b n) (hj : tableOrder x b (place j) = n) (c : Fin 6) :
    rawOf (boxesX x) (inOrder (rawScore x) (orderX x)) (inOrder (classF x) (orderX x)) (pickedOf (bestOf (leftOf x)).2) (ix3 b j c)
      = Pure.row (detsX x b (orderS x b n)) c := by
  have h := pickedOf_apply (bestOf (leftOf x)).2 b j n ((bestOf_apply (leftOf x) b j).1.trans (congrArg (fun q : Fin 5000 => BitVec.ofNat 32 q.val) hj))
  have hb := fun c => (rawOf_box (boxesX x) (inOrder (rawScore x) (orderX x)) (inOrder (classF x) (orderX x)) _ b j n h c).trans (boxesX_apply x b n c)
  match c with
  | ⟨0, _⟩ => exact hb 0
  | ⟨1, _⟩ => exact hb 1
  | ⟨2, _⟩ => exact hb 2
  | ⟨3, _⟩ => exact hb 3
  | ⟨4, _⟩ => exact (rawOf_score _ _ _ _ b j n h).trans (rawOrder_apply x b n (Pure.valid_of_score hn.1))
  | ⟨5, _⟩ => exact (rawOf_class _ _ _ _ b j n h).trans ((inOrder_apply x b _ n).trans (classF_apply x b _))

/-- The rows of the table are those of the kept detections. -/
theorem table_row (j : Fin 300) : Pure.IsRow (detsX x b) (orderS x b) j.val fun c => tableOf x (ix3 b j c) := by
  have hbest := (bestOf_apply (leftOf x) b j).2
  constructor
  · intro q hq hr
    have hj := (tableOrder_eq x b j q hq).mp hr
    have hm : ((bestOf (leftOf x)).1 (ix2 b j) : EReal) = Pure.score (detsX x b (orderS x b q)) :=
      hbest.trans ((congrArg (fun p => leftOf x (ix2 b p)) hj).trans (leftOf_kept x b q hq))
    funext c
    have h1 : ⊥ < Pure.score (detsX x b (orderS x b q)) := hq.1
    refine (resultOf_apply _ _ _ _ b j c).trans ?_
    rw [raw_row x b j q hq hj c, hm, decide_eq_true h1]
    simp
  · intro hr
    have hn : ¬ KeptX x b (tableOrder x b (place j)) := fun h => hr _ h ((tableOrder_eq x b j _ h).mpr rfl)
    have hm : ((bestOf (leftOf x)).1 (ix2 b j) : EReal) = ⊥ := hbest.trans (leftOf_not x b _ hn)
    funext c
    refine (resultOf_apply _ _ _ _ b j c).trans ?_
    rw [hm, decide_eq_false (lt_irrefl _)]
    simp

end Cert.Proof.RI

end
-- ==== Proof.Equal.lean ====
/-
  The kernel's output is the reference's table.
-/
module

public import proofs.«01_k».proof.Proof.KI.Out
public import proofs.«01_k».proof.Proof.KI.Input
public import proofs.«01_k».proof.Proof.RI.Rows

@[expose] public section

noncomputable section

namespace Cert.Proof

open Idealize.ShloMosaic Idealize.ShloMosaic.TcCoe Idealize.ShloMosaic.ValueIdx

/-- On the same detections the kernel and the reference leave the same table: each of its rows is the one row that is that of
    the kept detection of its rank, or zero. -/
theorem out_eq (x : FVec Ideal KernelIdeal.S4x5000x85 .f32) : KI.out (KI.layout x) = RI.tableOf x := by
  have key : ∀ (b : Fin 4) (j : Fin 300) (c : Fin 6), KI.out (KI.layout x) (ix3 b j c) = RI.tableOf x (ix3 b j c) := fun b j c => by
    have hd : KI.dets (KI.layout x) b = RI.detsX x b := KI.dets_eq x b
    have ho : Pure.Ordered (KI.dets (KI.layout x) b) (RI.orderS x b) := hd ▸ RI.orderS_ordered x b
    have h := KI.run_row (fun p hp => KI.score_rest x b p hp) ho j
    rw [hd] at h
    exact congrFun (Pure.IsRow.unique _ _ h (RI.table_row x b j)) c
  funext i
  rw [eq_ix3 i]
  exact key (i 0) (i 1) (i 2)

end Cert.Proof

end
-- ==== Proof.lean ====
/-
  The claims, put together. The kernel's program and its reading in exact arithmetic end with the argument unchanged and
  every counter at zero (Proof/KB/Run.lean, Proof/KI/Run.lean), so does the reference (Proof/RI/Frame.lean), the reading in
  exact arithmetic rewrites no operation, and in exact arithmetic the kernel's result is the reference's (Proof/Equal.lean).
-/
module

public import proofs.«01_k».proof.Defs
public import proofs.«01_k».proof.Proof.KB.Run
public import proofs.«01_k».proof.Proof.KI.Run
public import proofs.«01_k».proof.Proof.RI.Frame
public import proofs.«01_k».proof.Proof.Equal

@[expose] public section

noncomputable section

namespace Cert.Proof

open Idealize.ShloMosaic Idealize.ShloMosaic.TcCoe Idealize.SL.Sem

/-- The kernel ends with its argument unchanged and its counters at zero. -/
theorem kernel_frame : Cert.quiescent_Kernel (hKernel := Cert.Kernel.Gen.facts) := fun m g _ =>
  (θ_run Cert.Kernel.defs _ _).mono (fun _ h => ⟨fun c => KB.final_arg0 h.1 c, h.2⟩) (KB.run_main (F := Bits) m g)

/-- So does its reading in exact arithmetic. -/
theorem ideal_frame : Cert.quiescent_KernelIdeal (hKernelIdeal := Cert.KernelIdeal.Gen.facts) := fun m g _ =>
  (θ_run Cert.KernelIdeal.defs _ _).mono (fun _ h => ⟨fun c => KI.final_arg0 h.1 c, h.2⟩) (KI.run_main (F := Ideal) m g)

/-- So does the reference. -/
theorem reference_frame : Cert.quiescent_ReferenceIdeal (hReferenceIdeal := Cert.ReferenceIdeal.Gen.facts) := fun m g _ =>
  RI.run_frame (F := Ideal) m g

/-- In exact arithmetic the kernel and the reference, from the same argument, leave the same result. -/
theorem same_result : Cert.algebraic_KernelIdeal_ReferenceIdeal (hKernelIdeal := Cert.KernelIdeal.Gen.facts)
    (hReferenceIdeal := Cert.ReferenceIdeal.Gen.facts) := fun m g m' g' _ hm => by
  refine ⟨fun c => KI.out (KI.inp m c), ?_, ?_⟩
  · exact (θ_run Cert.KernelIdeal.defs _ _).mono (fun _ h c => ⟨KI.final_v3 h.1 c, KI.final_arg0 h.1 c⟩) (KI.run_main (F := Ideal) m g)
  · refine (θ_run Cert.ReferenceIdeal.defs _ _).mono (fun _ h c => ⟨?_, (h c Cert.ReferenceIdeal.main_arg0 rfl).trans (RI.final_arg0 m' c)⟩)
      (Cert.ReferenceIdeal.Value.run_fold (F := Ideal) m' g')
    refine (h c Cert.ReferenceIdeal.main_v145 rfl).trans ((RI.final_v145 m' c).trans ?_)
    show RI.tableOf (m' ((c.tc : Thread Cert.ReferenceIdeal.nD Cert.ReferenceIdeal.τ).loc Cert.ReferenceIdeal.main_arg0)) = KI.out (KI.inp m c)
    rw [hm c, KI.inp_eq]
    exact (out_eq _).symm

/-- Everything claimed. -/
theorem claim : Cert.Claim :=
  ⟨Cert.Kernel.Gen.facts, Cert.KernelIdeal.Gen.facts, Cert.ReferenceIdeal.Gen.facts, kernel_frame, ideal_frame, reference_frame,
    trivial, same_result⟩

end Cert.Proof

end
